-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S_ : Shape := ⟨0, ![]⟩
abbrev S1024x8192 : Shape := ⟨2, ![1024, 8192]⟩
abbrev S1024x4096 : Shape := ⟨2, ![1024, 4096]⟩
abbrev S4096x4096 : Shape := ⟨2, ![4096, 4096]⟩
abbrev S8 : Shape := ⟨1, ![8]⟩
abbrev S1 : Shape := ⟨1, ![1]⟩
abbrev S128x4096 : Shape := ⟨2, ![128, 4096]⟩
abbrev S128x2048 : Shape := ⟨2, ![128, 2048]⟩

abbrev nBuf : Space → Nat
  | .hbm => 29
  | .vmem => 2
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1024x8192, .bf16⟩
  | .hbm, ⟨26, _⟩ => ⟨S1024x4096, .f32⟩
  | .hbm, ⟨27, _⟩ => ⟨S1024x4096, .bf16⟩
  | .hbm, ⟨28, _⟩ => ⟨S4096x4096, .bf16⟩
  | .local _ .vmem, ⟨0, _⟩ => ⟨S1024x4096, .bf16⟩
  | .local _ .vmem, ⟨1, _⟩ => ⟨S1024x4096, .bf16⟩
  | _, _ => ⟨S4096x8192, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v21 : BitVec 32 := Scalar.muli v2 c4_i32_12
  let v22 : BitVec 32 := Scalar.addi c0_i32 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v23 : BitVec 32 := Scalar.muli v5 c2_i32_13
  let v24 : BitVec 32 := Scalar.addi v22 v23
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_14 : BitVec 32 := 1#32
  let v25 : BitVec 32 := Scalar.muli v17 c1_i32_14
  let v26 : BitVec 32 := Scalar.addi v24 v25
  v26.toNat
def k0_dev2 (d0 : Dev nD) : Nat :=
  let c0_i32_17 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_16 : BitVec 32 := 4#32
  let v27 : BitVec 32 := Scalar.muli v18 c4_i32_16
  let v28 : BitVec 32 := Scalar.addi c0_i32_17 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v29 : BitVec 32 := Scalar.muli v5 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v33 : BitVec 32 := Scalar.muli v2 c4_i32_21
  let v34 : BitVec 32 := Scalar.addi c0_i32_22 v33
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_23 : BitVec 32 := 2#32
  let v35 : BitVec 32 := Scalar.muli v19 c2_i32_23
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v37 : BitVec 32 := Scalar.muli v8 c1_i32_24
  let v38 : BitVec 32 := Scalar.addi v36 v37
  v38.toNat
def k0_dev4 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v39 : BitVec 32 := Scalar.muli v2 c4_i32_27
  let v40 : BitVec 32 := Scalar.addi c0_i32_28 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v41 : BitVec 32 := Scalar.muli v5 c2_i32_29
  let v42 : BitVec 32 := Scalar.addi v40 v41
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_30 : BitVec 32 := 1#32
  let v43 : BitVec 32 := Scalar.muli v17 c1_i32_30
  let v44 : BitVec 32 := Scalar.addi v42 v43
  v44.toNat
def k0_dev5 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v51 : BitVec 32 := Scalar.muli v2 c4_i32_37
  let v52 : BitVec 32 := Scalar.addi c0_i32_38 v51
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v53 : BitVec 32 := Scalar.muli v5 c2_i32_39
  let v54 : BitVec 32 := Scalar.addi v52 v53
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_40 : BitVec 32 := 1#32
  let v55 : BitVec 32 := Scalar.muli v17 c1_i32_40
  let v56 : BitVec 32 := Scalar.addi v54 v55
  v56.toNat
def k0_dev6 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v63 : BitVec 32 := Scalar.muli v2 c4_i32_46
  let v64 : BitVec 32 := Scalar.addi c0_i32_47 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_48 : BitVec 32 := 2#32
  let v65 : BitVec 32 := Scalar.muli v5 c2_i32_48
  let v66 : BitVec 32 := Scalar.addi v64 v65
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_49 : BitVec 32 := 1#32
  let v67 : BitVec 32 := Scalar.muli v17 c1_i32_49
  let v68 : BitVec 32 := Scalar.addi v66 v67
  v68.toNat
def k0_dev7 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v75 : BitVec 32 := Scalar.muli v2 c4_i32_55
  let v76 : BitVec 32 := Scalar.addi c0_i32_56 v75
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v77 : BitVec 32 := Scalar.muli v5 c2_i32_57
  let v78 : BitVec 32 := Scalar.addi v76 v77
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_58 : BitVec 32 := 1#32
  let v79 : BitVec 32 := Scalar.muli v17 c1_i32_58
  let v80 : BitVec 32 := Scalar.addi v78 v79
  v80.toNat
def k0_dev8 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v87 : BitVec 32 := Scalar.muli v2 c4_i32_64
  let v88 : BitVec 32 := Scalar.addi c0_i32_65 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_66 : BitVec 32 := 2#32
  let v89 : BitVec 32 := Scalar.muli v5 c2_i32_66
  let v90 : BitVec 32 := Scalar.addi v88 v89
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_67 : BitVec 32 := 1#32
  let v91 : BitVec 32 := Scalar.muli v17 c1_i32_67
  let v92 : BitVec 32 := Scalar.addi v90 v91
  v92.toNat
def k0_dev9 (d0 : Dev nD) : Nat :=
  let c0_i32_73 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_72 : BitVec 32 := 4#32
  let v99 : BitVec 32 := Scalar.muli v2 c4_i32_72
  let v100 : BitVec 32 := Scalar.addi c0_i32_73 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v101 : BitVec 32 := Scalar.muli v5 c2_i32_74
  let v102 : BitVec 32 := Scalar.addi v100 v101
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_75 : BitVec 32 := 1#32
  let v103 : BitVec 32 := Scalar.muli v17 c1_i32_75
  let v104 : BitVec 32 := Scalar.addi v102 v103
  v104.toNat
def k0_dev10 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v111 : BitVec 32 := Scalar.muli v2 c4_i32_80
  let v112 : BitVec 32 := Scalar.addi c0_i32_81 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v113 : BitVec 32 := Scalar.muli v5 c2_i32_82
  let v114 : BitVec 32 := Scalar.addi v112 v113
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_83 : BitVec 32 := 1#32
  let v115 : BitVec 32 := Scalar.muli v17 c1_i32_83
  let v116 : BitVec 32 := Scalar.addi v114 v115
  v116.toNat
def k0_dev11 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v123 : BitVec 32 := Scalar.muli v2 c4_i32_88
  let v124 : BitVec 32 := Scalar.addi c0_i32_89 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v125 : BitVec 32 := Scalar.muli v5 c2_i32_90
  let v126 : BitVec 32 := Scalar.addi v124 v125
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_91 : BitVec 32 := 1#32
  let v127 : BitVec 32 := Scalar.muli v17 c1_i32_91
  let v128 : BitVec 32 := Scalar.addi v126 v127
  v128.toNat
def k0_off1 (d0 : Dev nD) (c0_i32_110 : BitVec 32) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32 : BitVec 32 := 1024#32
  let v155 : BitVec 32 := Scalar.muli v10 c1024_i32
  let v156 : BitVec 32 := Scalar.addi v155 c0_i32_110
  let c0_i32_117 : BitVec 32 := 0#32
  ![v156.toNat, 0]
def k0_dev12 (d0 : Dev nD) : Nat :=
  let c0_i32_114 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_113 : BitVec 32 := 4#32
  let v157 : BitVec 32 := Scalar.muli v18 c4_i32_113
  let v158 : BitVec 32 := Scalar.addi c0_i32_114 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v159 : BitVec 32 := Scalar.muli v5 c2_i32_115
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v161 : BitVec 32 := Scalar.muli v8 c1_i32_116
  let v162 : BitVec 32 := Scalar.addi v160 v161
  v162.toNat
def k0_dev13 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v169 : BitVec 32 := Scalar.muli v2 c4_i32_122
  let v170 : BitVec 32 := Scalar.addi c0_i32_123 v169
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_124 : BitVec 32 := 2#32
  let v171 : BitVec 32 := Scalar.muli v19 c2_i32_124
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v173 : BitVec 32 := Scalar.muli v8 c1_i32_125
  let v174 : BitVec 32 := Scalar.addi v172 v173
  v174.toNat
def k0_dev14 (d0 : Dev nD) : Nat :=
  let c0_i32_149 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_148 : BitVec 32 := 4#32
  let v203 : BitVec 32 := Scalar.muli v18 c4_i32_148
  let v204 : BitVec 32 := Scalar.addi c0_i32_149 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v205 : BitVec 32 := Scalar.muli v5 c2_i32_150
  let v206 : BitVec 32 := Scalar.addi v204 v205
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_151 : BitVec 32 := 1#32
  let v207 : BitVec 32 := Scalar.muli v8 c1_i32_151
  let v208 : BitVec 32 := Scalar.addi v206 v207
  v208.toNat
def k0_dev15 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v215 : BitVec 32 := Scalar.muli v2 c4_i32_157
  let v216 : BitVec 32 := Scalar.addi c0_i32_158 v215
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_159 : BitVec 32 := 2#32
  let v217 : BitVec 32 := Scalar.muli v19 c2_i32_159
  let v218 : BitVec 32 := Scalar.addi v216 v217
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_160 : BitVec 32 := 1#32
  let v219 : BitVec 32 := Scalar.muli v8 c1_i32_160
  let v220 : BitVec 32 := Scalar.addi v218 v219
  v220.toNat
def k0_dev16 (d0 : Dev nD) : Nat :=
  let c0_i32_184 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_183 : BitVec 32 := 4#32
  let v249 : BitVec 32 := Scalar.muli v18 c4_i32_183
  let v250 : BitVec 32 := Scalar.addi c0_i32_184 v249
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v251 : BitVec 32 := Scalar.muli v5 c2_i32_185
  let v252 : BitVec 32 := Scalar.addi v250 v251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v253 : BitVec 32 := Scalar.muli v8 c1_i32_186
  let v254 : BitVec 32 := Scalar.addi v252 v253
  v254.toNat
def k0_dev17 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v261 : BitVec 32 := Scalar.muli v2 c4_i32_192
  let v262 : BitVec 32 := Scalar.addi c0_i32_193 v261
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_194 : BitVec 32 := 2#32
  let v263 : BitVec 32 := Scalar.muli v19 c2_i32_194
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v265 : BitVec 32 := Scalar.muli v8 c1_i32_195
  let v266 : BitVec 32 := Scalar.addi v264 v265
  v266.toNat
def k0_dev18 (d0 : Dev nD) : Nat :=
  let c0_i32_219 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_218 : BitVec 32 := 4#32
  let v295 : BitVec 32 := Scalar.muli v18 c4_i32_218
  let v296 : BitVec 32 := Scalar.addi c0_i32_219 v295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v297 : BitVec 32 := Scalar.muli v5 c2_i32_220
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_221 : BitVec 32 := 1#32
  let v299 : BitVec 32 := Scalar.muli v8 c1_i32_221
  let v300 : BitVec 32 := Scalar.addi v298 v299
  v300.toNat
def k0_dev19 (d0 : Dev nD) : Nat :=
  let c0_i32_228 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_227 : BitVec 32 := 4#32
  let v307 : BitVec 32 := Scalar.muli v2 c4_i32_227
  let v308 : BitVec 32 := Scalar.addi c0_i32_228 v307
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_229 : BitVec 32 := 2#32
  let v309 : BitVec 32 := Scalar.muli v19 c2_i32_229
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_230 : BitVec 32 := 1#32
  let v311 : BitVec 32 := Scalar.muli v8 c1_i32_230
  let v312 : BitVec 32 := Scalar.addi v310 v311
  v312.toNat
def k0_dev20 (d0 : Dev nD) : Nat :=
  let c0_i32_254 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_253 : BitVec 32 := 4#32
  let v341 : BitVec 32 := Scalar.muli v18 c4_i32_253
  let v342 : BitVec 32 := Scalar.addi c0_i32_254 v341
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_255 : BitVec 32 := 2#32
  let v343 : BitVec 32 := Scalar.muli v5 c2_i32_255
  let v344 : BitVec 32 := Scalar.addi v342 v343
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v345 : BitVec 32 := Scalar.muli v8 c1_i32_256
  let v346 : BitVec 32 := Scalar.addi v344 v345
  v346.toNat
def k0_dev21 (d0 : Dev nD) : Nat :=
  let c0_i32_263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_262 : BitVec 32 := 4#32
  let v353 : BitVec 32 := Scalar.muli v2 c4_i32_262
  let v354 : BitVec 32 := Scalar.addi c0_i32_263 v353
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_264 : BitVec 32 := 2#32
  let v355 : BitVec 32 := Scalar.muli v19 c2_i32_264
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_265 : BitVec 32 := 1#32
  let v357 : BitVec 32 := Scalar.muli v8 c1_i32_265
  let v358 : BitVec 32 := Scalar.addi v356 v357
  v358.toNat
def k0_dev22 (d0 : Dev nD) : Nat :=
  let c0_i32_289 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_288 : BitVec 32 := 4#32
  let v387 : BitVec 32 := Scalar.muli v18 c4_i32_288
  let v388 : BitVec 32 := Scalar.addi c0_i32_289 v387
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_290 : BitVec 32 := 2#32
  let v389 : BitVec 32 := Scalar.muli v5 c2_i32_290
  let v390 : BitVec 32 := Scalar.addi v388 v389
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_291 : BitVec 32 := 1#32
  let v391 : BitVec 32 := Scalar.muli v8 c1_i32_291
  let v392 : BitVec 32 := Scalar.addi v390 v391
  v392.toNat
def k0_dev23 (d0 : Dev nD) : Nat :=
  let c0_i32_298 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_297 : BitVec 32 := 4#32
  let v399 : BitVec 32 := Scalar.muli v2 c4_i32_297
  let v400 : BitVec 32 := Scalar.addi c0_i32_298 v399
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_299 : BitVec 32 := 2#32
  let v401 : BitVec 32 := Scalar.muli v19 c2_i32_299
  let v402 : BitVec 32 := Scalar.addi v400 v401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v403 : BitVec 32 := Scalar.muli v8 c1_i32_300
  let v404 : BitVec 32 := Scalar.addi v402 v403
  v404.toNat
def k0_dev24 (d0 : Dev nD) : Nat :=
  let c0_i32_324 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_323 : BitVec 32 := 4#32
  let v433 : BitVec 32 := Scalar.muli v18 c4_i32_323
  let v434 : BitVec 32 := Scalar.addi c0_i32_324 v433
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v435 : BitVec 32 := Scalar.muli v5 c2_i32_325
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v437 : BitVec 32 := Scalar.muli v8 c1_i32_326
  let v438 : BitVec 32 := Scalar.addi v436 v437
  v438.toNat
def k0_dev25 (d0 : Dev nD) : Nat :=
  let c0_i32_333 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_332 : BitVec 32 := 4#32
  let v445 : BitVec 32 := Scalar.muli v2 c4_i32_332
  let v446 : BitVec 32 := Scalar.addi c0_i32_333 v445
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_334 : BitVec 32 := 2#32
  let v447 : BitVec 32 := Scalar.muli v19 c2_i32_334
  let v448 : BitVec 32 := Scalar.addi v446 v447
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_335 : BitVec 32 := 1#32
  let v449 : BitVec 32 := Scalar.muli v8 c1_i32_335
  let v450 : BitVec 32 := Scalar.addi v448 v449
  v450.toNat
def k0_dev26 (d0 : Dev nD) : Nat :=
  let c0_i32_359 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_358 : BitVec 32 := 4#32
  let v479 : BitVec 32 := Scalar.muli v18 c4_i32_358
  let v480 : BitVec 32 := Scalar.addi c0_i32_359 v479
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v481 : BitVec 32 := Scalar.muli v5 c2_i32_360
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v483 : BitVec 32 := Scalar.muli v8 c1_i32_361
  let v484 : BitVec 32 := Scalar.addi v482 v483
  v484.toNat
def k0_dev27 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v491 : BitVec 32 := Scalar.muli v2 c4_i32_367
  let v492 : BitVec 32 := Scalar.addi c0_i32_368 v491
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_369 : BitVec 32 := 2#32
  let v493 : BitVec 32 := Scalar.muli v19 c2_i32_369
  let v494 : BitVec 32 := Scalar.addi v492 v493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_370 : BitVec 32 := 1#32
  let v495 : BitVec 32 := Scalar.muli v8 c1_i32_370
  let v496 : BitVec 32 := Scalar.addi v494 v495
  v496.toNat
def k0_off2 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1024_i32_374 : BitVec 32 := 1024#32
  let v503 : BitVec 32 := Scalar.muli v10 c1024_i32_374
  let c0_i32_375 : BitVec 32 := 0#32
  ![v503.toNat, 0]
def k0_off3 (d0 : Dev nD) (c0_i32_386 : BitVec 32) : Fin 2 → Nat :=
  let c2_i32_5 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v12 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c1024_i32_385 : BitVec 32 := 1024#32
  let v515 : BitVec 32 := Scalar.muli v13 c1024_i32_385
  let v516 : BitVec 32 := Scalar.addi v515 c0_i32_386
  let c0_i32_393 : BitVec 32 := 0#32
  ![v516.toNat, 0]
def k0_dev28 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v517 : BitVec 32 := Scalar.muli v2 c4_i32_389
  let v518 : BitVec 32 := Scalar.addi c0_i32_390 v517
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_391 : BitVec 32 := 2#32
  let v519 : BitVec 32 := Scalar.muli v19 c2_i32_391
  let v520 : BitVec 32 := Scalar.addi v518 v519
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v521 : BitVec 32 := Scalar.muli v8 c1_i32_392
  let v522 : BitVec 32 := Scalar.addi v520 v521
  v522.toNat
def k0_off4 (d0 : Dev nD) (c0_i32_405 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_6 v2
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_7 v5
  let v16 : BitVec 32 := Scalar.addi v14 v15
  let c1024_i32_404 : BitVec 32 := 1024#32
  let v539 : BitVec 32 := Scalar.muli v16 c1024_i32_404
  let v540 : BitVec 32 := Scalar.addi v539 c0_i32_405
  let c2048_i32 : BitVec 32 := 2048#32
  ![v540.toNat, 2048]
def k0_dev29 (d0 : Dev nD) : Nat :=
  let c0_i32_409 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_408 : BitVec 32 := 4#32
  let v541 : BitVec 32 := Scalar.muli v18 c4_i32_408
  let v542 : BitVec 32 := Scalar.addi c0_i32_409 v541
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_410 : BitVec 32 := 2#32
  let v543 : BitVec 32 := Scalar.muli v5 c2_i32_410
  let v544 : BitVec 32 := Scalar.addi v542 v543
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_411 : BitVec 32 := 1#32
  let v545 : BitVec 32 := Scalar.muli v8 c1_i32_411
  let v546 : BitVec 32 := Scalar.addi v544 v545
  v546.toNat
def k0_dev30 (d0 : Dev nD) : Nat :=
  let c0_i32_427 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_426 : BitVec 32 := 4#32
  let v565 : BitVec 32 := Scalar.muli v2 c4_i32_426
  let v566 : BitVec 32 := Scalar.addi c0_i32_427 v565
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_428 : BitVec 32 := 2#32
  let v567 : BitVec 32 := Scalar.muli v19 c2_i32_428
  let v568 : BitVec 32 := Scalar.addi v566 v567
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_429 : BitVec 32 := 1#32
  let v569 : BitVec 32 := Scalar.muli v8 c1_i32_429
  let v570 : BitVec 32 := Scalar.addi v568 v569
  v570.toNat
def k0_dev31 (d0 : Dev nD) : Nat :=
  let c0_i32_446 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_445 : BitVec 32 := 4#32
  let v589 : BitVec 32 := Scalar.muli v18 c4_i32_445
  let v590 : BitVec 32 := Scalar.addi c0_i32_446 v589
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_447 : BitVec 32 := 2#32
  let v591 : BitVec 32 := Scalar.muli v5 c2_i32_447
  let v592 : BitVec 32 := Scalar.addi v590 v591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_448 : BitVec 32 := 1#32
  let v593 : BitVec 32 := Scalar.muli v8 c1_i32_448
  let v594 : BitVec 32 := Scalar.addi v592 v593
  v594.toNat
def k0_dev32 (d0 : Dev nD) : Nat :=
  let c0_i32_465 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_464 : BitVec 32 := 4#32
  let v613 : BitVec 32 := Scalar.muli v2 c4_i32_464
  let v614 : BitVec 32 := Scalar.addi c0_i32_465 v613
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_466 : BitVec 32 := 2#32
  let v615 : BitVec 32 := Scalar.muli v19 c2_i32_466
  let v616 : BitVec 32 := Scalar.addi v614 v615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v617 : BitVec 32 := Scalar.muli v8 c1_i32_467
  let v618 : BitVec 32 := Scalar.addi v616 v617
  v618.toNat
def k0_dev33 (d0 : Dev nD) : Nat :=
  let c0_i32_484 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_483 : BitVec 32 := 4#32
  let v637 : BitVec 32 := Scalar.muli v18 c4_i32_483
  let v638 : BitVec 32 := Scalar.addi c0_i32_484 v637
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v639 : BitVec 32 := Scalar.muli v5 c2_i32_485
  let v640 : BitVec 32 := Scalar.addi v638 v639
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_486 : BitVec 32 := 1#32
  let v641 : BitVec 32 := Scalar.muli v8 c1_i32_486
  let v642 : BitVec 32 := Scalar.addi v640 v641
  v642.toNat
def k0_dev34 (d0 : Dev nD) : Nat :=
  let c0_i32_503 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_502 : BitVec 32 := 4#32
  let v661 : BitVec 32 := Scalar.muli v2 c4_i32_502
  let v662 : BitVec 32 := Scalar.addi c0_i32_503 v661
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_504 : BitVec 32 := 2#32
  let v663 : BitVec 32 := Scalar.muli v19 c2_i32_504
  let v664 : BitVec 32 := Scalar.addi v662 v663
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_505 : BitVec 32 := 1#32
  let v665 : BitVec 32 := Scalar.muli v8 c1_i32_505
  let v666 : BitVec 32 := Scalar.addi v664 v665
  v666.toNat
def k0_dev35 (d0 : Dev nD) : Nat :=
  let c0_i32_522 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_521 : BitVec 32 := 4#32
  let v685 : BitVec 32 := Scalar.muli v18 c4_i32_521
  let v686 : BitVec 32 := Scalar.addi c0_i32_522 v685
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_523 : BitVec 32 := 2#32
  let v687 : BitVec 32 := Scalar.muli v5 c2_i32_523
  let v688 : BitVec 32 := Scalar.addi v686 v687
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_524 : BitVec 32 := 1#32
  let v689 : BitVec 32 := Scalar.muli v8 c1_i32_524
  let v690 : BitVec 32 := Scalar.addi v688 v689
  v690.toNat
def k0_dev36 (d0 : Dev nD) : Nat :=
  let c0_i32_541 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_540 : BitVec 32 := 4#32
  let v709 : BitVec 32 := Scalar.muli v2 c4_i32_540
  let v710 : BitVec 32 := Scalar.addi c0_i32_541 v709
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_542 : BitVec 32 := 2#32
  let v711 : BitVec 32 := Scalar.muli v19 c2_i32_542
  let v712 : BitVec 32 := Scalar.addi v710 v711
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_543 : BitVec 32 := 1#32
  let v713 : BitVec 32 := Scalar.muli v8 c1_i32_543
  let v714 : BitVec 32 := Scalar.addi v712 v713
  v714.toNat
def k0_dev37 (d0 : Dev nD) : Nat :=
  let c0_i32_560 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_559 : BitVec 32 := 4#32
  let v733 : BitVec 32 := Scalar.muli v18 c4_i32_559
  let v734 : BitVec 32 := Scalar.addi c0_i32_560 v733
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_561 : BitVec 32 := 2#32
  let v735 : BitVec 32 := Scalar.muli v5 c2_i32_561
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_562 : BitVec 32 := 1#32
  let v737 : BitVec 32 := Scalar.muli v8 c1_i32_562
  let v738 : BitVec 32 := Scalar.addi v736 v737
  v738.toNat
def k0_dev38 (d0 : Dev nD) : Nat :=
  let c0_i32_579 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_578 : BitVec 32 := 4#32
  let v757 : BitVec 32 := Scalar.muli v2 c4_i32_578
  let v758 : BitVec 32 := Scalar.addi c0_i32_579 v757
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_580 : BitVec 32 := 2#32
  let v759 : BitVec 32 := Scalar.muli v19 c2_i32_580
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_581 : BitVec 32 := 1#32
  let v761 : BitVec 32 := Scalar.muli v8 c1_i32_581
  let v762 : BitVec 32 := Scalar.addi v760 v761
  v762.toNat
def k0_dev39 (d0 : Dev nD) : Nat :=
  let c0_i32_598 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_597 : BitVec 32 := 4#32
  let v781 : BitVec 32 := Scalar.muli v18 c4_i32_597
  let v782 : BitVec 32 := Scalar.addi c0_i32_598 v781
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_599 : BitVec 32 := 2#32
  let v783 : BitVec 32 := Scalar.muli v5 c2_i32_599
  let v784 : BitVec 32 := Scalar.addi v782 v783
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_600 : BitVec 32 := 1#32
  let v785 : BitVec 32 := Scalar.muli v8 c1_i32_600
  let v786 : BitVec 32 := Scalar.addi v784 v785
  v786.toNat
def k0_dev40 (d0 : Dev nD) : Nat :=
  let c0_i32_617 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_616 : BitVec 32 := 4#32
  let v805 : BitVec 32 := Scalar.muli v2 c4_i32_616
  let v806 : BitVec 32 := Scalar.addi c0_i32_617 v805
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_618 : BitVec 32 := 2#32
  let v807 : BitVec 32 := Scalar.muli v19 c2_i32_618
  let v808 : BitVec 32 := Scalar.addi v806 v807
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_619 : BitVec 32 := 1#32
  let v809 : BitVec 32 := Scalar.muli v8 c1_i32_619
  let v810 : BitVec 32 := Scalar.addi v808 v809
  v810.toNat
def k0_dev41 (d0 : Dev nD) : Nat :=
  let c0_i32_636 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_635 : BitVec 32 := 4#32
  let v829 : BitVec 32 := Scalar.muli v18 c4_i32_635
  let v830 : BitVec 32 := Scalar.addi c0_i32_636 v829
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_637 : BitVec 32 := 2#32
  let v831 : BitVec 32 := Scalar.muli v5 c2_i32_637
  let v832 : BitVec 32 := Scalar.addi v830 v831
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_638 : BitVec 32 := 1#32
  let v833 : BitVec 32 := Scalar.muli v8 c1_i32_638
  let v834 : BitVec 32 := Scalar.addi v832 v833
  v834.toNat
def k0_dev42 (d0 : Dev nD) : Nat :=
  let c0_i32_655 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_654 : BitVec 32 := 4#32
  let v853 : BitVec 32 := Scalar.muli v2 c4_i32_654
  let v854 : BitVec 32 := Scalar.addi c0_i32_655 v853
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_10 v5
  let c2_i32_656 : BitVec 32 := 2#32
  let v855 : BitVec 32 := Scalar.muli v19 c2_i32_656
  let v856 : BitVec 32 := Scalar.addi v854 v855
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_657 : BitVec 32 := 1#32
  let v857 : BitVec 32 := Scalar.muli v8 c1_i32_657
  let v858 : BitVec 32 := Scalar.addi v856 v857
  v858.toNat
def k0_dev43 (d0 : Dev nD) : Nat :=
  let c0_i32_674 : BitVec 32 := 0#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.subi c1_i32_9 v2
  let c4_i32_673 : BitVec 32 := 4#32
  let v877 : BitVec 32 := Scalar.muli v18 c4_i32_673
  let v878 : BitVec 32 := Scalar.addi c0_i32_674 v877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_675 : BitVec 32 := 2#32
  let v879 : BitVec 32 := Scalar.muli v5 c2_i32_675
  let v880 : BitVec 32 := Scalar.addi v878 v879
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_676 : BitVec 32 := 1#32
  let v881 : BitVec 32 := Scalar.muli v8 c1_i32_676
  let v882 : BitVec 32 := Scalar.addi v880 v881
  v882.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x16384, .bf16⟩
  | .hbm, ⟨2, _⟩ => ⟨S16384x4096, .bf16⟩
  | .hbm, ⟨3, _⟩ => ⟨S4096x4096, .f32⟩
  | .hbm, ⟨4, _⟩ => ⟨S4096x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/- The kernel's body as eight-step loops over the row chunks: each copy, wait and store named once for a
   chunk index and a device, and the printed body shown to be their sequence. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.AR

open Idealize.ShloMosaic Idealize.ShloMosaic.TcCoe
open Idealize.SL Idealize.SL.Sem
open Cert.KernelIdeal Cert.KernelIdeal.Facts₀

variable {F : FTy → Type} [FloatOps F]

/-! ## Neighbours -/

/-- The device across `z`. -/
def zn (c : Dev nD) : Dev nD := ⟨k0_dev4 c, Gen.k0_dev4_lt c⟩
/-- The device across `x`. -/
def xn (c : Dev nD) : Dev nD := ⟨k0_dev12 c, Gen.k0_dev12_lt c⟩
/-- The device across `y`. -/
def yn (c : Dev nD) : Dev nD := ⟨k0_dev13 c, Gen.k0_dev13_lt c⟩

/-! ## Semaphores

Ten arrays of eight transfer semaphores, one after the other from 1, and the local copy's. -/

/-- Semaphore `i` of the array `k`. -/
def sm (k : Fin 10) (i : Fin 8) : DmaSem sig := ⟨1 + 8 * k.val + i.val, by
  have := k.isLt; have := i.isLt; show _ < 82; omega⟩
/-- The local copy's semaphore. -/
def smL : DmaSem sig := ⟨81, by decide⟩

/-! ## Chunks -/

theorem inbC (i : Fin 8) : ∀ a, (![128 * i.val, 0] : Fin 2 → Nat) a + S128x4096.size a ≤ S1024x4096.size a := by
  revert i; decide
theorem wordsC (i : Fin 8) : (Rect.unit (s := S1024x4096) ![128 * i.val, 0] S128x4096.size (inbC i)).WholeWords (EltTy.packing .bf16) := by
  revert i; decide
theorem packedC (i : Fin 8) : (Rect.unit (s := S1024x4096) ![128 * i.val, 0] S128x4096.size (inbC i)).PackedRows (EltTy.packing .bf16) := by
  revert i; decide

/-- Rows `128 i … 128 i + 127` of a 1024-row array. -/
abbrev rC (i : Fin 8) : Rect S1024x4096 := Rect.unit (s := S1024x4096) ![128 * i.val, 0] S128x4096.size (inbC i)

/-- The partial product's staging buffer, the receive buffer and the result. -/
abbrev pB : Memref sig .tc .vmem S1024x4096 .bf16 := Memref.whole cc0_stg0_0
abbrev zB : Memref sig .tc .vmem S1024x4096 .bf16 := Memref.whole cc0_scratch0
abbrev oB : Memref sig .tc .hbm S4096x4096 .bf16 := Memref.whole main_v18

theorem pW : (pB).IsWhole := Memref.isWhole_whole _
theorem zW : (zB).IsWhole := Memref.isWhole_whole _
theorem oW : (oB).IsWhole := Memref.isWhole_whole _

/-- Chunk `i` of the partial product. -/
abbrev pC (i : Fin 8) : Memref sig .tc .vmem S128x4096 .bf16 := pB.slice (rC i) (fun _ => rfl)
/-- Chunk `i` of the receive buffer. -/
abbrev zC (i : Fin 8) : Memref sig .tc .vmem S128x4096 .bf16 := zB.slice (rC i) (fun _ => rfl)
/-- Chunk `i` of device `d`'s own block of rows of the result. -/
abbrev rM (d : Dev nD) (i : Fin 8) : Rect S4096x4096 :=
  Rect.unit (s := S4096x4096) (k0_off1 d (BitVec.ofNat 32 (128 * i.val))) S128x4096.size (Gen.k0_off1_inb d i)
abbrev oM (d : Dev nD) (i : Fin 8) : Memref sig .tc .hbm S128x4096 .bf16 := oB.slice (rM d i) (fun _ => rfl)
/-- The whole of device `d`'s own block of rows. -/
abbrev rW (d : Dev nD) : Rect S4096x4096 := Rect.unit (s := S4096x4096) (k0_off2 d) S1024x4096.size (Gen.k0_off2_inb d)
abbrev oO (d : Dev nD) : Memref sig .tc .hbm S1024x4096 .bf16 := oB.slice (rW d) (fun _ => rfl)
/-- The left half of chunk `i` of the block of `d`'s neighbour across `x`. -/
abbrev rL (d : Dev nD) (i : Fin 8) : Rect S4096x4096 :=
  Rect.unit (s := S4096x4096) (k0_off3 d (BitVec.ofNat 32 (128 * i.val))) S128x2048.size (Gen.k0_off3_inb d i)
abbrev oL (d : Dev nD) (i : Fin 8) : Memref sig .tc .hbm S128x2048 .bf16 := oB.slice (rL d i) (fun _ => rfl)
/-- The right half of chunk `i` of the block of `d`'s neighbour across `y`. -/
abbrev rR (d : Dev nD) (i : Fin 8) : Rect S4096x4096 :=
  Rect.unit (s := S4096x4096) (k0_off4 d (BitVec.ofNat 32 (128 * i.val))) S128x2048.size (Gen.k0_off4_inb d i)
abbrev oR (d : Dev nD) (i : Fin 8) : Memref sig .tc .hbm S128x2048 .bf16 := oB.slice (rR d i) (fun _ => rfl)

theorem pX (i : Fin 8) : (pC i).view.WordExact := pW.wordExact_slice rfl _ (wordsC i)
theorem zX (i : Fin 8) : (zC i).view.WordExact := zW.wordExact_slice rfl _ (wordsC i)
theorem mX (d : Dev nD) (i : Fin 8) : (oM d i).view.WordExact := oW.wordExact_slice rfl _ (Gen.k0_off1_wordsbf16 d i)
theorem ownX (d : Dev nD) : (oO d).view.WordExact := oW.wordExact_slice rfl _ (Gen.k0_off2_wordsbf16 d)
theorem lX (d : Dev nD) (i : Fin 8) : (oL d i).view.WordExact := oW.wordExact_slice rfl _ (Gen.k0_off3_wordsbf16 d i)
theorem rX (d : Dev nD) (i : Fin 8) : (oR d i).view.WordExact := oW.wordExact_slice rfl _ (Gen.k0_off4_wordsbf16 d i)

/-! ## The steps -/

/-- The eight steps of a loop over the chunks, in order. -/
def each8 (f : Fin 8 → Prog (TpuEff nD τ sig (Elt F) Λ₀ .tc) PUnit) : Prog (TpuEff nD τ sig (Elt F) Λ₀ .tc) PUnit := do
  f 0; f 1; f 2; f 3; f 4; f 5; f 6; f 7

/-- The barrier semaphore. -/
abbrev bar : Sem sig := sig.barrier 0 rfl

/-- The handshake at the kernel's entry: one unit to each neighbour, then three units of one's own. -/
def handshake (d : Dev nD) : Prog (TpuEff nD τ sig (Elt F) Λ₀ .tc) PUnit := do
  semSignalWord (zn d) bar 1#32
  semSignalWord (xn d) bar 1#32
  semSignalWord (yn d) bar 1#32
  semWaitWord bar 3#32

/-- Chunk `i` of the partial product starts to the neighbour across `z`. -/
def zStart (d : Dev nD) (i : Fin 8) : Prog (TpuEff nD τ sig (Elt F) Λ₀ .tc) PUnit :=
  Prog.lift (.enqueueDma (pC i) (.remote (Dev.tc (zn d)) (zC i) (.dma (sm 0 i))) (.dma (sm 1 i)) (pX i) (zX i) ⟨⟨rfl, Or.inl rfl⟩, trivial⟩)

/-- Chunk `i` arrives, is summed with one's own, and the sum starts to the neighbours across `x` and `y`. -/
def sumStep (d : Dev nD) (i : Fin 8) : Prog (TpuEff nD τ sig (Elt F) Λ₀ .tc) PUnit := do
  Prog.lift (.waitDma2 (sm 1 i) (pC i) (zC i) (pX i) (zX i))
  let a : Vec F S128x4096 .bf16 ← Prog.lift (.load pB (rC i).toLoadRect (View.loadsAt_vmem Gen.h_S128x4096))
  let b : Vec F S128x4096 .bf16 ← Prog.lift (.load zB (rC i).toLoadRect (View.loadsAt_vmem Gen.h_S128x4096))
  let _ : Vec F S128x4096 .bf16 ← Prog.lift (.load zB (rC i).toLoadRect (View.loadsAt_vmem Gen.h_S128x4096))
  Prog.lift (.store zB (rC i) (Gen.k0_pay1 a b) Finset.univ
    (View.stores_vmem Gen.h_S128x4096 (zW.storeExact_slice rfl _ (packedC i)) (fun _ => rfl)) (.inl rfl))
  Prog.lift (.enqueueDma (zC i) (.remote (Dev.tc (xn d)) (oM d i) (.dma (sm 2 i))) (.dma (sm 3 i)) (zX i) (mX d i) ⟨⟨rfl, Or.inl rfl⟩, trivial⟩)
  Prog.lift (.enqueueDma (zC i) (.remote (Dev.tc (yn d)) (oM d i) (.dma (sm 4 i))) (.dma (sm 5 i)) (zX i) (mX d i) ⟨⟨rfl, Or.inl rfl⟩, trivial⟩)

/-- One's own block starts into the result. -/
def ownStart (d : Dev nD) : Prog (TpuEff nD τ sig (Elt F) Λ₀ .tc) PUnit :=
  Prog.lift (.enqueueDma zB (.here (oO d)) (.dma smL) zW.wordExact (ownX d) ⟨Or.inl rfl, trivial⟩)

/-- Chunk `i` arrives from either neighbour, and half of each starts on to the other. -/
def fwdStep (d : Dev nD) (i : Fin 8) : Prog (TpuEff nD τ sig (Elt F) Λ₀ .tc) PUnit := do
  Prog.lift (.waitDma2 (sm 3 i) (zC i) (oM d i) (zX i) (mX d i))
  Prog.lift (.enqueueDma (oL d i) (.remote (Dev.tc (yn d)) (oL d i) (.dma (sm 8 i))) (.dma (sm 9 i)) (lX d i) (lX d i) ⟨⟨rfl, Or.inl rfl⟩, trivial⟩)
  Prog.lift (.waitDma2 (sm 5 i) (zC i) (oM d i) (zX i) (mX d i))
  Prog.lift (.enqueueDma (oR d i) (.remote (Dev.tc (xn d)) (oR d i) (.dma (sm 6 i))) (.dma (sm 7 i)) (rX d i) (rX d i) ⟨⟨rfl, Or.inl rfl⟩, trivial⟩)

/-- The waits of chunk `i` that are left: what was sent has been read, and the forwarded halves have arrived. -/
def drainStep (d : Dev nD) (i : Fin 8) : Prog (TpuEff nD τ sig (Elt F) Λ₀ .tc) PUnit := do
  Prog.lift (.waitDma2 (sm 0 i) (zC i) (pC i) (zX i) (pX i))
  Prog.lift (.waitDma2 (sm 2 i) (oM d i) (zC i) (mX d i) (zX i))
  Prog.lift (.waitDma2 (sm 4 i) (oM d i) (zC i) (mX d i) (zX i))
  Prog.lift (.waitDma2 (sm 8 i) (oL d i) (oL d i) (lX d i) (lX d i))
  Prog.lift (.waitDma2 (sm 6 i) (oR d i) (oR d i) (rX d i) (rX d i))
  Prog.lift (.waitDma2 (sm 9 i) (oL d i) (oL d i) (lX d i) (lX d i))
  Prog.lift (.waitDma2 (sm 7 i) (oR d i) (oR d i) (rX d i) (rX d i))

/-- The local copy has landed. -/
def ownWait (d : Dev nD) : Prog (TpuEff nD τ sig (Elt F) Λ₀ .tc) PUnit :=
  Prog.lift (.waitDma2 smL zB (oO d) zW.wordExact (ownX d))

/-- The kernel's body. -/
def arProg : Prog (TpuEff nD τ sig (Elt F) Λ₀ .tc) PUnit := do
  let d ← Prog.lift .deviceId
  handshake d
  each8 (zStart d)
  each8 (sumStep d)
  ownStart d
  each8 (fwdStep d)
  each8 (drainStep d)
  ownWait d

theorem body_eq (h : (pB).IsWhole) (h1 : (oB).IsWhole) (h2 : (zB).IsWhole) :
    cc0__ar_body (F := F) pB h oB h1 zB h2 cc0_scratch1 cc0_scratch2 cc0_scratch3 cc0_scratch4 cc0_scratch5 cc0_scratch6
      cc0_scratch7 cc0_scratch8 cc0_scratch9 cc0_scratch10 cc0_scratch11 = arProg := by
  chain_rfl

theorem smL_eq : smL.val = 81 := rfl
theorem sm_val (k : Fin 10) (i : Fin 8) : (sm k i).val = 1 + 8 * k.val + i.val := rfl
attribute [irreducible] sm smL

end Cert.AR

end
-- ==== Proof.Geo.lean ====
/- Where the chunks lie: neighbours, blocks of rows, the element sets of the views, and the two buffers that
   remote copies write cut into them. -/
module

public import proofs.«01_k».proof.Proof.Prog
public import Idealize.ShloMosaic.Lib.ValueIdx
public import Idealize.ShloMosaic.Lib.Writes

@[expose] public section

noncomputable section

namespace Cert.AR

open Idealize.ShloMosaic Idealize.ShloMosaic.TcCoe
open Idealize.SL Idealize.SL.Sem Idealize.SL.RA
open Idealize.SL.BI (sProp bigSep bigSep_congr)
open scoped Idealize.SL.BI
open Idealize.SL.BI.BIBase Idealize.SL.BI.Laws Idealize.SL.ProofMode
open Idealize.ShloMosaic.ValueIdx (ix2 eq_ix2)
open Cert.KernelIdeal

variable {F : FTy → Type} [FloatOps F]

/-! ## Neighbours -/

theorem zn_zn (c : Dev nD) : zn (zn c) = c := by revert c; decide +kernel
theorem xn_xn (c : Dev nD) : xn (xn c) = c := by revert c; decide +kernel
theorem yn_yn (c : Dev nD) : yn (yn c) = c := by revert c; decide +kernel
theorem xn_yn (c : Dev nD) : xn (yn c) = yn (xn c) := by revert c; decide +kernel

/-- The three neighbours by number: across `z`, `x`, `y`. -/
def nb : Fin 3 → Dev nD → Dev nD
  | 0 => zn
  | 1 => xn
  | 2 => yn
theorem nb_nb (a : Fin 3) (c : Dev nD) : nb a (nb a c) = c := by
  match a with
  | 0 => exact zn_zn c
  | 1 => exact xn_xn c
  | 2 => exact yn_yn c

/-- The block of rows of the result that device `c` sums. -/
def blk (c : Dev nD) : Nat := 2 * (c.val / 4) + (c.val / 2) % 2

/-- The device that sums block `k`, on `c`'s side of `z`. -/
def dv (c : Dev nD) (k : Fin 4) : Dev nD := ⟨4 * (k.val / 2) + 2 * (k.val % 2) + c.val % 2, by
  have := k.isLt; show _ < 8; omega⟩

theorem blk_facts (c : Dev nD) : blk c < 4 ∧ blk (xn c) < 4 ∧ blk (yn c) < 4 ∧ blk (xn (yn c)) < 4
    ∧ blk c ≠ blk (xn c) ∧ blk c ≠ blk (yn c) ∧ blk c ≠ blk (xn (yn c)) ∧ blk (xn c) ≠ blk (yn c)
    ∧ blk (xn c) ≠ blk (xn (yn c)) ∧ blk (yn c) ≠ blk (xn (yn c)) := by
  revert c; decide +kernel
theorem blk_lt (c : Dev nD) : blk c < 4 := (blk_facts c).1

theorem dv_own (c : Dev nD) : dv c ⟨blk c, blk_lt c⟩ = c := by revert c; decide +kernel
theorem dv_x (c : Dev nD) : dv (xn c) ⟨blk c, blk_lt c⟩ = c := by revert c; decide +kernel
theorem dv_y (c : Dev nD) : dv (yn c) ⟨blk c, blk_lt c⟩ = c := by revert c; decide +kernel
theorem dv_of_x (c : Dev nD) (k : Fin 4) : dv (xn c) k = dv c k := by revert c k; decide +kernel
theorem dv_of_y (c : Dev nD) (k : Fin 4) : dv (yn c) k = dv c k := by revert c k; decide +kernel

/-! ## Offsets in closed form -/

theorem off1_eq (d : Dev nD) (i : Fin 8) : k0_off1 d (BitVec.ofNat 32 (128 * i.val)) = ![1024 * blk d + 128 * i.val, 0] := by
  revert d i; decide +kernel
theorem off2_eq (d : Dev nD) : k0_off2 d = ![1024 * blk d, 0] := by revert d; decide +kernel
theorem off3_eq (d : Dev nD) (i : Fin 8) : k0_off3 d (BitVec.ofNat 32 (128 * i.val)) = ![1024 * blk (xn d) + 128 * i.val, 0] := by
  revert d i; decide +kernel
theorem off4_eq (d : Dev nD) (i : Fin 8) : k0_off4 d (BitVec.ofNat 32 (128 * i.val)) = ![1024 * blk (yn d) + 128 * i.val, 2048] := by
  revert d i; decide +kernel

/-! ## Element sets -/

theorem mem_zC (i : Fin 8) (j : S1024x4096.Idx) :
    j ∈ (zC i).view.set ↔ 128 * i.val ≤ (j 0).val ∧ (j 0).val < 128 * i.val + 128 := by
  have h1 : (j 1).val < 4096 := (j 1).isLt
  rw [show (zC i).view.set = (rC i).set from View.set_slice_whole _ _, Rect.mem_set_unit, Fin.forall_fin_two]
  simp only [Matrix.cons_val_zero, Matrix.cons_val_one]
  exact ⟨fun h => h.1, fun h => ⟨h, Nat.zero_le _, by omega⟩⟩

theorem mem_pC (i : Fin 8) (j : S1024x4096.Idx) :
    j ∈ (pC i).view.set ↔ 128 * i.val ≤ (j 0).val ∧ (j 0).val < 128 * i.val + 128 := by
  rw [← mem_zC]; exact Iff.rfl

theorem mem_oM (d : Dev nD) (i : Fin 8) (j : S4096x4096.Idx) :
    j ∈ (oM d i).view.set ↔ 1024 * blk d + 128 * i.val ≤ (j 0).val ∧ (j 0).val < 1024 * blk d + 128 * i.val + 128 := by
  have h1 : (j 1).val < 4096 := (j 1).isLt
  rw [show (oM d i).view.set = (rM d i).set from View.set_slice_whole _ _, Rect.mem_set_unit, Fin.forall_fin_two, off1_eq]
  simp only [Matrix.cons_val_zero, Matrix.cons_val_one]
  exact ⟨fun h => h.1, fun h => ⟨h, Nat.zero_le _, by omega⟩⟩

theorem mem_oO (d : Dev nD) (j : S4096x4096.Idx) :
    j ∈ (oO d).view.set ↔ 1024 * blk d ≤ (j 0).val ∧ (j 0).val < 1024 * blk d + 1024 := by
  have h1 : (j 1).val < 4096 := (j 1).isLt
  rw [show (oO d).view.set = (rW d).set from View.set_slice_whole _ _, Rect.mem_set_unit, Fin.forall_fin_two, off2_eq]
  simp only [Matrix.cons_val_zero, Matrix.cons_val_one]
  exact ⟨fun h => h.1, fun h => ⟨h, Nat.zero_le _, by omega⟩⟩

theorem mem_oL (d : Dev nD) (i : Fin 8) (j : S4096x4096.Idx) :
    j ∈ (oL d i).view.set ↔ (1024 * blk (xn d) + 128 * i.val ≤ (j 0).val ∧ (j 0).val < 1024 * blk (xn d) + 128 * i.val + 128)
      ∧ (j 1).val < 2048 := by
  rw [show (oL d i).view.set = (rL d i).set from View.set_slice_whole _ _, Rect.mem_set_unit, Fin.forall_fin_two, off3_eq]
  simp only [Matrix.cons_val_zero, Matrix.cons_val_one]
  exact ⟨fun h => ⟨h.1, by omega⟩, fun h => ⟨h.1, Nat.zero_le _, by omega⟩⟩

theorem mem_oR (d : Dev nD) (i : Fin 8) (j : S4096x4096.Idx) :
    j ∈ (oR d i).view.set ↔ (1024 * blk (yn d) + 128 * i.val ≤ (j 0).val ∧ (j 0).val < 1024 * blk (yn d) + 128 * i.val + 128)
      ∧ 2048 ≤ (j 1).val := by
  have h1 : (j 1).val < 4096 := (j 1).isLt
  rw [show (oR d i).view.set = (rR d i).set from View.set_slice_whole _ _, Rect.mem_set_unit, Fin.forall_fin_two, off4_eq]
  simp only [Matrix.cons_val_zero, Matrix.cons_val_one]
  exact ⟨fun h => ⟨h.1, h.2.1⟩, fun h => ⟨h.1, h.2, by omega⟩⟩

theorem mem_rowsM (d : Dev nD) (j : S4096x4096.Idx) :
    j ∈ ((Finset.univ : Finset (Fin 8)).biUnion fun i => (oM d i).view.set : Finset S4096x4096.Idx)
      ↔ (j 0).val / 1024 = blk d := by
  have h0 : (j 0).val < 4096 := (j 0).isLt
  refine Finset.mem_biUnion.trans ⟨fun ⟨i, _, hi⟩ => ?_, fun h => ⟨⟨(j 0).val % 1024 / 128, by omega⟩, Finset.mem_univ _, ?_⟩⟩
  · have h1 := (mem_oM d i j).mp hi; have h2 := i.isLt; omega
  · exact (mem_oM d _ j).mpr (by dsimp only; omega)
theorem disj_oM (d : Dev nD) (i k : Fin 8) (h : i ≠ k) :
    Disjoint (oM d i).view.set (oM d k).view.set := by
  refine Finset.disjoint_left.mpr fun j hi hk => h (Fin.ext ?_)
  have h1 := (mem_oM d i j).mp hi; have h2 := (mem_oM d k j).mp hk; omega
theorem mem_rowsL (d : Dev nD) (j : S4096x4096.Idx) :
    j ∈ ((Finset.univ : Finset (Fin 8)).biUnion fun i => (oL d i).view.set : Finset S4096x4096.Idx)
      ↔ (j 0).val / 1024 = blk (xn d) ∧ (j 1).val < 2048 := by
  have h0 : (j 0).val < 4096 := (j 0).isLt
  refine Finset.mem_biUnion.trans ⟨fun ⟨i, _, hi⟩ => ?_, fun h => ⟨⟨(j 0).val % 1024 / 128, by omega⟩, Finset.mem_univ _, ?_⟩⟩
  · have h1 := (mem_oL d i j).mp hi; have h2 := i.isLt; omega
  · exact (mem_oL d _ j).mpr (by dsimp only; omega)
theorem disj_oL (d : Dev nD) (i k : Fin 8) (h : i ≠ k) :
    Disjoint (oL d i).view.set (oL d k).view.set := by
  refine Finset.disjoint_left.mpr fun j hi hk => h (Fin.ext ?_)
  have h1 := (mem_oL d i j).mp hi; have h2 := (mem_oL d k j).mp hk; omega
theorem mem_rowsR (d : Dev nD) (j : S4096x4096.Idx) :
    j ∈ ((Finset.univ : Finset (Fin 8)).biUnion fun i => (oR d i).view.set : Finset S4096x4096.Idx)
      ↔ (j 0).val / 1024 = blk (yn d) ∧ 2048 ≤ (j 1).val := by
  have h0 : (j 0).val < 4096 := (j 0).isLt
  refine Finset.mem_biUnion.trans ⟨fun ⟨i, _, hi⟩ => ?_, fun h => ⟨⟨(j 0).val % 1024 / 128, by omega⟩, Finset.mem_univ _, ?_⟩⟩
  · have h1 := (mem_oR d i j).mp hi; have h2 := i.isLt; omega
  · exact (mem_oR d _ j).mpr (by dsimp only; omega)
theorem disj_oR (d : Dev nD) (i k : Fin 8) (h : i ≠ k) :
    Disjoint (oR d i).view.set (oR d k).view.set := by
  refine Finset.disjoint_left.mpr fun j hi hk => h (Fin.ext ?_)
  have h1 := (mem_oR d i j).mp hi; have h2 := (mem_oR d k j).mp hk; omega

/-! ## The buffers cut into chunks -/

section Cut

variable {Ix : Type} [DecidableEq Ix] {Name : Type} [DecidableEq Name] {U : Type} [URA U] {Lvl : Type}

local notation "𝕄" => MT nD τ sig Ix (Elt F) Name U Lvl

/-- Where the receive buffer, the staged partial product and the result lie on device `c`. -/
abbrev zLoc (c : Dev nD) : Loc nD τ sig := (c : Thread nD τ).loc cc0_scratch0
abbrev pLoc (c : Dev nD) : Loc nD τ sig := (c : Thread nD τ).loc cc0_stg0_0
abbrev oLoc (c : Dev nD) : Loc nD τ sig := (c : Thread nD τ).loc main_v18

theorem chunk_disjoint (i k : Fin 8) (h : i ≠ k) : Disjoint (zC i).view.set (zC k).view.set := by
  refine Finset.disjoint_left.mpr fun j hi hk => h (Fin.ext ?_)
  have h1 := (mem_zC i j).mp hi; have h2 := (mem_zC k j).mp hk; omega

theorem chunk_cover : (Finset.univ : Finset (Fin 8)).biUnion (fun i => (zC i).view.set) = (Finset.univ : Finset S1024x4096.Idx) := by
  refine Finset.eq_univ_iff_forall.mpr fun j => Finset.mem_biUnion.mpr ?_
  have h0 : (j 0).val < 1024 := (j 0).isLt
  refine ⟨⟨(j 0).val / 128, by omega⟩, Finset.mem_univ _, (mem_zC _ j).mpr ?_⟩
  dsimp only; omega

theorem z_cut (c : Dev nD) (q : PosShare TreeShare) (f : Buf (Elt F) (zLoc c)) :
    ((zLoc c) ↦{q} f : sProp 𝕄) = bigSep Finset.univ fun i => (zLoc c) ↦[(zC i).view.set]{q} f := by
  rw [← pointsTo_biUnion Finset.univ _ (fun i _ k _ h => chunk_disjoint i k h)]
  exact congrArg (fun S : Finset S1024x4096.Idx => ((zLoc c) ↦[S]{q} f : sProp 𝕄)) chunk_cover.symm

theorem p_cut (c : Dev nD) (q : PosShare TreeShare) (f : Buf (Elt F) (pLoc c)) :
    ((pLoc c) ↦{q} f : sProp 𝕄) = bigSep Finset.univ fun i => (pLoc c) ↦[(pC i).view.set]{q} f := by
  rw [← pointsTo_biUnion Finset.univ _ (fun i _ k _ h => chunk_disjoint i k h)]
  exact congrArg (fun S : Finset S1024x4096.Idx => ((pLoc c) ↦[S]{q} f : sProp 𝕄)) chunk_cover.symm

theorem union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem sub_eq {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

theorem share_eq {ℓ : Loc nD τ sig} {I : Finset (Idx ℓ)} (q : PosShare TreeShare) (f : Buf (Elt F) ℓ) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- The result on device `c`: its own block, the blocks of its neighbours across `x` and `y` chunk by chunk, and
    the block diagonally across as two families of half chunks, the left half forwarded by the neighbour across
    `y` and the right half by the one across `x`. -/
theorem o_cut (c : Dev nD) (f : Buf (Elt F) (oLoc c)) :
    ((oLoc c) ↦{fullShare} f : sProp 𝕄)
      = iprop(((oLoc c) ↦[(oO c).view.set]{fullShare} f)
        ∗ (bigSep Finset.univ fun i => (oLoc c) ↦[(oM (xn c) i).view.set]{fullShare} f)
        ∗ (bigSep Finset.univ fun i => (oLoc c) ↦[(oR (xn c) i).view.set]{fullShare} f)
        ∗ (bigSep Finset.univ fun i => (oLoc c) ↦[(oM (yn c) i).view.set]{fullShare} f)
        ∗ (bigSep Finset.univ fun i => (oLoc c) ↦[(oL (yn c) i).view.set]{fullShare} f)) := by
  have hb := blk_facts c
  have hxy : xn (yn c) = yn (xn c) := xn_yn c
  let A : Finset S4096x4096.Idx := (oO c).view.set
  let B : Finset S4096x4096.Idx := Finset.univ.biUnion fun i => (oM (xn c) i).view.set
  let C : Finset S4096x4096.Idx := Finset.univ.biUnion fun i => (oR (xn c) i).view.set
  let D : Finset S4096x4096.Idx := Finset.univ.biUnion fun i => (oM (yn c) i).view.set
  let E : Finset S4096x4096.Idx := Finset.univ.biUnion fun i => (oL (yn c) i).view.set
  have mA : ∀ j, j ∈ A ↔ (j 0).val / 1024 = blk c := fun j => by
    show j ∈ (oO c).view.set ↔ _; rw [mem_oO]; omega
  have mB : ∀ j, j ∈ B ↔ (j 0).val / 1024 = blk (xn c) := mem_rowsM (xn c)
  have mD : ∀ j, j ∈ D ↔ (j 0).val / 1024 = blk (yn c) := mem_rowsM (yn c)
  have mC : ∀ j, j ∈ C ↔ (j 0).val / 1024 = blk (xn (yn c)) ∧ 2048 ≤ (j 1).val := fun j => by
    rw [hxy]; exact mem_rowsR (xn c) j
  have mE : ∀ j, j ∈ E ↔ (j 0).val / 1024 = blk (xn (yn c)) ∧ (j 1).val < 2048 := mem_rowsL (yn c)
  have hU : (Finset.univ : Finset S4096x4096.Idx) = A ∪ (B ∪ (C ∪ (D ∪ E))) := by
    refine (Finset.eq_univ_iff_forall.mpr fun j => ?_).symm
    have h0 : (j 0).val < 4096 := (j 0).isLt
    simp only [Finset.mem_union, mA, mB, mC, mD, mE]; omega
  have d1 : Disjoint A (B ∪ (C ∪ (D ∪ E))) := Finset.disjoint_left.mpr fun j h h' => by
    simp only [Finset.mem_union, mA, mB, mC, mD, mE] at h h'; omega
  have d2 : Disjoint B (C ∪ (D ∪ E)) := Finset.disjoint_left.mpr fun j h h' => by
    simp only [Finset.mem_union, mB, mC, mD, mE] at h h'; omega
  have d3 : Disjoint C (D ∪ E) := Finset.disjoint_left.mpr fun j h h' => by
    simp only [Finset.mem_union, mC, mD, mE] at h h'; omega
  have d4 : Disjoint D E := Finset.disjoint_left.mpr fun j h h' => by
    simp only [mD, mE] at h h'; omega
  rw [← pointsTo_biUnion Finset.univ _ (fun i _ k _ h => disj_oM (xn c) i k h), ← pointsTo_biUnion Finset.univ _ (fun i _ k _ h => disj_oR (xn c) i k h), ← pointsTo_biUnion Finset.univ _ (fun i _ k _ h => disj_oM (yn c) i k h),
    ← pointsTo_biUnion Finset.univ _ (fun i _ k _ h => disj_oL (yn c) i k h), ← union_eq d4, ← union_eq d3, ← union_eq d2, ← union_eq d1]
  exact congrArg (fun S : Finset S4096x4096.Idx => ((oLoc c) ↦[S]{fullShare} f : sProp 𝕄)) hU

theorem oL_sub (c : Dev nD) (i : Fin 8) : (oL c i).view.set ⊆ (oM (xn c) i).view.set := fun j hj =>
  (mem_oM _ _ j).mpr ((mem_oL c i j).mp hj).1
theorem oR_sub (c : Dev nD) (i : Fin 8) : (oR c i).view.set ⊆ (oM (yn c) i).view.set := fun j hj =>
  (mem_oM _ _ j).mpr ((mem_oR c i j).mp hj).1

end Cut

/-! ## Contents -/

/-- The row of a block of 1024 rows and the column of an element of the result. -/
def inBlk (j : S4096x4096.Idx) : S1024x4096.Idx := ix2 ⟨(j 0).val % 1024, Nat.mod_lt _ (by decide)⟩ (j 1)
/-- The block of an element of the result. -/
def ofBlk (j : S4096x4096.Idx) : Fin 4 := ⟨(j 0).val / 1024, by have h : (j 0).val < 4096 := (j 0).isLt; omega⟩

/-- The sums `S`, one block of rows per device, gathered on device `c`. -/
def gathered {α : Type} (S : Dev nD → S1024x4096.Idx → α) (c : Dev nD) : S4096x4096.Idx → α :=
  fun j => S (dv c (ofBlk j)) (inBlk j)

theorem gathered_x {α : Type} (S : Dev nD → S1024x4096.Idx → α) (c : Dev nD) : gathered S (xn c) = gathered S c :=
  funext fun j => by unfold gathered; rw [dv_of_x]
theorem gathered_y {α : Type} (S : Dev nD → S1024x4096.Idx → α) (c : Dev nD) : gathered S (yn c) = gathered S c :=
  funext fun j => by unfold gathered; rw [dv_of_y]

/-- An element of device `c`'s own block holds `c`'s sum. -/
theorem gathered_own {α : Type} (S : Dev nD → S1024x4096.Idx → α) (c : Dev nD) (j : S4096x4096.Idx) (k : S1024x4096.Idx)
    (h0 : (j 0).val = 1024 * blk c + (k 0).val) (h1 : (j 1).val = (k 1).val) : gathered S c j = S c k := by
  have hk : (k 0).val < 1024 := (k 0).isLt
  have hd : dv c (ofBlk j) = c := by
    have : ofBlk j = ⟨blk c, blk_lt c⟩ := Fin.ext (by show (j 0).val / 1024 = blk c; omega)
    rw [this, dv_own]
  have hj : inBlk j = k := by
    rw [eq_ix2 k]
    refine congrArg₂ ix2 (Fin.ext ?_) (Fin.ext h1)
    show (j 0).val % 1024 = _; omega
  unfold gathered; rw [hd, hj]

theorem zC_emb0 (i : Fin 8) (x : S128x4096.Idx) : (((zC i).view.emb x : S1024x4096.Idx) 0).val = 128 * i.val + (x 0).val := by
  show 128 * i.val + 1 * (x 0).val = _; rw [Nat.one_mul]
theorem zC_emb1 (i : Fin 8) (x : S128x4096.Idx) : (((zC i).view.emb x : S1024x4096.Idx) 1).val = (x 1).val := by
  show 0 + 1 * (x 1).val = _; omega
theorem oM_emb0 (d : Dev nD) (i : Fin 8) (x : S128x4096.Idx) :
    (((oM d i).view.emb x : S4096x4096.Idx) 0).val = 1024 * blk d + 128 * i.val + (x 0).val := by
  show k0_off1 d (BitVec.ofNat 32 (128 * i.val)) 0 + 1 * (x 0).val = _
  rw [off1_eq, Nat.one_mul]; rfl
theorem oM_emb1 (d : Dev nD) (i : Fin 8) (x : S128x4096.Idx) : (((oM d i).view.emb x : S4096x4096.Idx) 1).val = (x 1).val := by
  show k0_off1 d (BitVec.ofNat 32 (128 * i.val)) 1 + 1 * (x 1).val = _
  rw [off1_eq, Nat.one_mul]; exact Nat.zero_add _
theorem oO_emb0 (d : Dev nD) (x : S1024x4096.Idx) : (((oO d).view.emb x : S4096x4096.Idx) 0).val = 1024 * blk d + (x 0).val := by
  show k0_off2 d 0 + 1 * (x 0).val = _
  rw [off2_eq, Nat.one_mul]; rfl
theorem oO_emb1 (d : Dev nD) (x : S1024x4096.Idx) : (((oO d).view.emb x : S4096x4096.Idx) 1).val = (x 1).val := by
  show k0_off2 d 1 + 1 * (x 1).val = _
  rw [off2_eq, Nat.one_mul]; exact Nat.zero_add _

/-- A transfer between views at which source and target contents agree lands the target contents. -/
theorem landed_congr {Ix : Type} [DecidableEq Ix] {Name : Type} [DecidableEq Name] {U : Type} [URA U] {Lvl : Type}
    (c c' : Thread nD τ) {sp sp' : Space} {s : Shape} (src : Memref sig c.2.kind sp s .bf16) (dst : Memref sig c'.2.kind sp' s .bf16)
    (fs : Buf (Elt F) (src.view.loc c)) (fd g : Buf (Elt F) (dst.view.loc c'))
    (h : ∀ x, src.view.read (Elt F) fs x = dst.view.read (Elt F) g x) :
    (dst.view.loc c' ↦[dst.view.set]{fullShare} dst.view.write (Elt F) fd (src.view.read (Elt F) fs) Finset.univ
        : sProp (MT nD τ sig Ix (Elt F) Name U Lvl))
      = dst.view.loc c' ↦[dst.view.set]{fullShare} g := pointsTo_congr fun j hj => by
  obtain ⟨x, -, rfl⟩ := Finset.mem_map.mp hj
  rw [View.write_emb_of_mem _ _ (Finset.mem_univ _), h x, View.read_apply, cast_cast, cast_eq]

end Cert.AR

end
-- ==== Proof.Schedule.lean ====
/- The protocol: per semaphore who pays, how much, and what the payment hands over, with contents. -/
module

public import proofs.«01_k».proof.Proof.Geo
public import Idealize.ShloMosaic.Lib.Rounds
public import Idealize.ShloMosaic.Lib.Pipeline.Kit
public import Idealize.ShloMosaic.Lib.Tactic

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.RefSig
open Cert.KernelIdeal

variable {F : FTy → Type} [FloatOps F]

/-- The pipeline library's records and the protocol's, whose duties are numbered by the three directions. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Cells -/

/-- Device `c`'s barrier cell, its cell `i` of the array `k`, and its local copy's cell. -/
abbrev bc (c : Dev nD) : GSem nD τ sig := ((c : Thread nD τ), .reg bar)
abbrev dc (c : Dev nD) (k : Fin 10) (i : Fin 8) : GSem nD τ sig := ((c : Thread nD τ), .dma (sm k i))
abbrev lc (c : Dev nD) : GSem nD τ sig := ((c : Thread nD τ), .dma smL)

/-! ## Amounts -/

/-- A chunk's credit, a half chunk's, and a whole block's. -/
def N : ℕ := tileCredit S128x4096 .bf16
def Nh : ℕ := tileCredit S128x2048 .bf16
def NL : ℕ := tileCredit S1024x4096 .bf16
theorem N_pos : 0 < N := tileCredit_pos _ _ (Shape.numel_pos fun a => by fin_cases a <;> exact Nat.succ_pos _)
theorem Nh_pos : 0 < Nh := tileCredit_pos _ _ (Shape.numel_pos fun a => by fin_cases a <;> exact Nat.succ_pos _)
theorem NL_pos : 0 < NL := tileCredit_pos _ _ (Shape.numel_pos fun a => by fin_cases a <;> exact Nat.succ_pos _)

theorem am_chunk {sp : Space} (v : View sig .tc sp S128x4096 .bf16) : v.dmaCredit = N := rfl
theorem am_half {sp : Space} (v : View sig .tc sp S128x2048 .bf16) : v.dmaCredit = Nh := rfl
theorem am_own {sp : Space} (v : View sig .tc sp S1024x4096 .bf16) : v.dmaCredit = NL := rfl
attribute [irreducible] N Nh NL

/-- What a cell of the array `k` is paid. -/
def amt (k : Fin 10) : ℕ := if k.val < 6 then N else Nh

/-! ## Shares: of a summed chunk, the left part goes to the copy into one's own result, the two others to the sends
    across `x` and `y`. -/

abbrev qL : PosShare TreeShare := fullShare.left
abbrev qR : PosShare TreeShare := fullShare.right
abbrev qX : PosShare TreeShare := fullShare.right.left
abbrev qY : PosShare TreeShare := fullShare.right.right

/-! ## Contents -/

variable (P : Dev nD → Vec F S1024x4096 .bf16)

/-- Device `d`'s block of the sum, from the partial products: chunk by chunk as the kernel writes it. -/
def sums (d : Dev nD) : Vec F S1024x4096 .bf16 := fun j =>
  Gen.k0_pay1 (F := F) ((pB.access (rC ⟨(j 0).val / 128, by have h : (j 0).val < 1024 := (j 0).isLt; omega⟩)).read (Elt F) (P d))
    ((zB.access (rC ⟨(j 0).val / 128, by have h : (j 0).val < 1024 := (j 0).isLt; omega⟩)).read (Elt F) (P (zn d)))
    (ix2 ⟨(j 0).val % 128, Nat.mod_lt _ (by decide)⟩ (j 1))

/-- The whole result on device `c`. -/
def res (c : Dev nD) : Vec F S4096x4096 .bf16 := gathered (sums P) c

/-! ## Payloads -/

/-- Paid to cell `i` of the array `k` on device `c`. -/
def pay (c : Dev nD) (k : Fin 10) (i : Fin 8) : sProp 𝕄 :=
  match k with
  | 0 => (pLoc c) ↦[(pC i).view.set]{qL} (P c)
  | 1 => (zLoc c) ↦[(zC i).view.set]{fullShare} (P (zn c))
  | 2 => (zLoc c) ↦[(zC i).view.set]{qX} (sums P c)
  | 3 => (oLoc c) ↦[(oM (xn c) i).view.set]{fullShare} (res P c)
  | 4 => (zLoc c) ↦[(zC i).view.set]{qY} (sums P c)
  | 5 => (oLoc c) ↦[(oM (yn c) i).view.set]{fullShare} (res P c)
  | 6 => (oLoc c) ↦[(oR c i).view.set]{fullShare} (res P c)
  | 7 => (oLoc c) ↦[(oR (xn c) i).view.set]{fullShare} (res P c)
  | 8 => (oLoc c) ↦[(oL c i).view.set]{fullShare} (res P c)
  | 9 => (oLoc c) ↦[(oL (yn c) i).view.set]{fullShare} (res P c)

/-- Paid to the local copy's cell: one's own block of the result, and the share of the sums it was read from. -/
def payL (c : Dev nD) : sProp 𝕄 :=
  iprop(((oLoc c) ↦[(oO c).view.set]{fullShare} (res P c)) ∗ (zLoc c) ↦{qL} (sums P c))

/-- A chunk of the receive buffer, or of the result, at contents not chosen. -/
def zAny (c : Dev nD) (i : Fin 8) : sProp 𝕄 := iprop(∃ f : Buf (Elt F) (zLoc c), (zLoc c) ↦[(zC i).view.set]{fullShare} f)
def oAny (c : Dev nD) (S : Finset (Idx (oLoc c))) : sProp 𝕄 := iprop(∃ f : Buf (Elt F) (oLoc c), (oLoc c) ↦[S]{fullShare} f)

/-- What the neighbour `e` across `z` hands to `c` with its barrier unit: its whole receive buffer, chunk by chunk,
    each with the word that the cell that counts the arrival is open. -/
def grantZ (e : Dev nD) (i : Fin 8) : sProp 𝕄 := iprop(zAny e i ∗ reached ER (dc e 1 i) 0)
/-- What the neighbour `e` across `x` hands to `c`: `c`'s block of its result, and the right halves that `c` forwards. -/
def grantX (c e : Dev nD) (i : Fin 8) : sProp 𝕄 :=
  iprop((oAny e (oM c i).view.set ∗ reached ER (dc e 3 i) 0) ∗ (oAny e (oR c i).view.set ∗ reached ER (dc e 7 i) 0))
/-- What the neighbour `e` across `y` hands to `c`: `c`'s block of its result, and the left halves that `c` forwards. -/
def grantY (c e : Dev nD) (i : Fin 8) : sProp 𝕄 :=
  iprop((oAny e (oM c i).view.set ∗ reached ER (dc e 5 i) 0) ∗ (oAny e (oL c i).view.set ∗ reached ER (dc e 9 i) 0))

/-- Paid to device `c`'s barrier cell by its neighbour in the direction `a`. -/
def payB (c : Dev nD) (a : Fin 3) : sProp 𝕄 :=
  match a with
  | 0 => bigSep Finset.univ fun i => grantZ (zn c) i
  | 1 => bigSep Finset.univ fun i => grantX c (xn c) i
  | 2 => bigSep Finset.univ fun i => grantY c (yn c) i

/-! ## The schedule -/

/-- The array and the place in it of a transfer semaphore from 1 to 80. -/
def arrOf (j : DmaSem sig) : Fin 10 := ⟨(j.val - 1) / 8 % 10, Nat.mod_lt _ (by decide)⟩
def plcOf (j : DmaSem sig) : Fin 8 := ⟨(j.val - 1) % 8, Nat.mod_lt _ (by decide)⟩
theorem arrOf_sm (k : Fin 10) (i : Fin 8) : arrOf (sm k i) = k := Fin.ext (by
  have := k.isLt; have := i.isLt; unfold arrOf; dsimp only; rw [sm_val]; omega)
theorem plcOf_sm (k : Fin 10) (i : Fin 8) : plcOf (sm k i) = i := Fin.ext (by
  have := k.isLt; have := i.isLt; unfold plcOf; dsimp only; rw [sm_val]; omega)
theorem sm_ne_L (k : Fin 10) (i : Fin 8) : (sm k i).val ≠ 81 := by
  have := k.isLt; have := i.isLt; rw [sm_val]; omega
theorem sm_ne_0 (k : Fin 10) (i : Fin 8) : (sm k i).val ≠ 0 := by rw [sm_val]; omega
theorem smL_ne_0 : smL.val ≠ 0 := by rw [smL_eq]; decide
theorem sm_inj {k k' : Fin 10} {i i' : Fin 8} (h : sm k i = sm k' i') : k = k' ∧ i = i' :=
  ⟨by rw [← arrOf_sm k i, h, arrOf_sm], by rw [← plcOf_sm k i, h, plcOf_sm]⟩

def dutyOf : SemLoc sig → Finset (Fin 3)
  | .reg _ => Finset.univ
  | .dma j => if j.val = 0 then ∅ else {0}
def amountOf : SemLoc sig → ℕ
  | .reg _ => 1
  | .dma j => if j.val = 81 then NL else amt (arrOf j)
def payOf (c : Dev nD) (a : Fin 3) : SemLoc sig → sProp 𝕄
  | .reg _ => payB c a
  | .dma j => if j.val = 81 then payL P c else pay P c (arrOf j) (plcOf j)

/-- Everything happens in round 0: a barrier cell is paid by the three neighbours, a transfer cell once. -/
def Rd : Rounds.Schedule (GSem nD τ sig) (Fin 3) 𝕄 where
  duties g r := if r = 0 ∧ g.1.2 = .tc then dutyOf g.2 else ∅
  unitless _ := False
  amount g _ _ := amountOf g.2
  payload g _ a := payOf P g.1.1 a g.2
  amount_pos g _ _ _ := by
    obtain ⟨t, s | j⟩ := g
    · exact Nat.one_pos
    · show 0 < if j.val = 81 then NL else amt (arrOf j)
      split
      · exact NL_pos
      · unfold amt; split
        · exact N_pos
        · exact Nh_pos

instance storable_zAny (c : Dev nD) (i : Fin 8) : BI.Storable (upEmb : UEmb _ 𝕄) (zAny (F := F) c i) := by unfold zAny; infer_instance
instance storable_oAny (c : Dev nD) (S) : BI.Storable (upEmb : UEmb _ 𝕄) (oAny (F := F) c S) := by unfold oAny; infer_instance
instance storable_payB (c : Dev nD) (a : Fin 3) : BI.Storable (upEmb : UEmb _ 𝕄) (payB (F := F) c a) := by
  match a with
  | 0 => unfold payB grantZ; infer_instance
  | 1 => unfold payB grantX; infer_instance
  | 2 => unfold payB grantY; infer_instance
instance storable_pay (c : Dev nD) (k : Fin 10) (i : Fin 8) : BI.Storable (upEmb : UEmb _ 𝕄) (pay P c k i) := by
  match k with
  | 0 | 1 | 2 | 3 | 4 | 5 | 6 | 7 | 8 | 9 => unfold pay; infer_instance
instance storable_payL (c : Dev nD) : BI.Storable (upEmb : UEmb _ 𝕄) (payL P c) := by unfold payL; infer_instance
instance storable_payload (g : GSem nD τ sig) (r : ℕ) (a : Fin 3) : BI.Storable (upEmb : UEmb _ 𝕄) ((Rd P).payload g r a) := by
  obtain ⟨t, s | j⟩ := g
  · exact storable_payB t.1 a
  · show BI.Storable upEmb (if j.val = 81 then payL P t.1 else pay P t.1 (arrOf j) (plcOf j))
    split <;> infer_instance

section Sched

variable (c : Dev nD) (k : Fin 10) (i : Fin 8)

theorem duties_eq (g : GSem nD τ sig) (hg : g.1.2 = .tc) : (Rd P).duties g 0 = dutyOf g.2 := by
  dsimp only [Rd]; exact if_pos ⟨rfl, hg⟩
theorem amount_eq (g : GSem nD τ sig) (r : ℕ) (a : Fin 3) : (Rd P).amount g r a = amountOf g.2 := by dsimp only [Rd]
theorem payload_eq (g : GSem nD τ sig) (r : ℕ) (a : Fin 3) : (Rd P).payload g r a = payOf P g.1.1 a g.2 := by dsimp only [Rd]
theorem duties_b : (Rd P).duties (bc c) 0 = Finset.univ := by rw [duties_eq P _ rfl]; dsimp only [dutyOf]
theorem duties_d : (Rd P).duties (dc c k i) 0 = {0} := by rw [duties_eq P _ rfl]; dsimp only [dutyOf]; rw [if_neg (sm_ne_0 k i)]
theorem duties_l : (Rd P).duties (lc c) 0 = {0} := by rw [duties_eq P _ rfl]; dsimp only [dutyOf]; rw [if_neg smL_ne_0]
theorem duties_later (g : GSem nD τ sig) : ∀ r, 1 ≤ r → (Rd P).duties g r = ∅ := fun r hr => by
  dsimp only [Rd]; exact if_neg (fun h => by have := h.1; omega)
theorem amount_b (a : Fin 3) : (Rd P).amount (bc c) 0 a = 1 := by rw [amount_eq]; dsimp only [amountOf]
theorem amount_d (a : Fin 3) : (Rd P).amount (dc c k i) 0 a = amt k := by
  rw [amount_eq]; dsimp only [amountOf]; rw [if_neg (sm_ne_L k i), arrOf_sm]
theorem amount_l (a : Fin 3) : (Rd P).amount (lc c) 0 a = NL := by rw [amount_eq]; dsimp only [amountOf]; rw [if_pos smL_eq]
theorem payload_b (a : Fin 3) : (Rd P).payload (bc c) 0 a = payB c a := by rw [payload_eq]; dsimp only [payOf]
theorem payload_d (a : Fin 3) : (Rd P).payload (dc c k i) 0 a = pay P c k i := by
  rw [payload_eq]; dsimp only [payOf]; rw [if_neg (sm_ne_L k i), arrOf_sm, plcOf_sm]
theorem payload_l (a : Fin 3) : (Rd P).payload (lc c) 0 a = payL P c := by rw [payload_eq]; dsimp only [payOf]; rw [if_pos smL_eq]

theorem expect_one (g : GSem nD τ sig) (n : ℕ) (h : (Rd P).duties g 0 = {0}) (h' : (Rd P).amount g 0 0 = n) : (Rd P).expect g 0 = n := by
  unfold Schedule.expect Schedule.amountOf
  rw [h, Finset.sum_singleton, h']
theorem expect_b : (Rd P).expect (bc c) 0 = 3 := by
  unfold Schedule.expect Schedule.amountOf
  rw [duties_b, Finset.sum_congr rfl fun a _ => amount_b P c a, Finset.sum_const, Finset.card_univ, Fintype.card_fin, smul_eq_mul, Nat.mul_one]
theorem expect_d : (Rd P).expect (dc c k i) 0 = amt k := expect_one P _ _ (duties_d P c k i) (amount_d P c k i 0)
theorem expect_l : (Rd P).expect (lc c) 0 = NL := expect_one P _ _ (duties_l P c) (amount_l P c 0)

theorem bigSep_three {M : Type} [URA M] (Φ : Fin 3 → sProp M) : bigSep Finset.univ Φ = iprop(Φ 0 ∗ Φ 1 ∗ Φ 2) := by
  rw [show (Finset.univ : Finset (Fin 3)) = {0, 1, 2} from by decide, bigSep_insert (by decide), bigSep_insert (by decide), bigSep_singleton]
  rfl

theorem rest_b : bigSep ((Rd P).duties (bc c) 0 \ ∅) (fun a => (Rd P).payload (bc c) 0 a)
    = iprop(payB c 0 ∗ payB c 1 ∗ payB c 2) := by
  rw [Finset.sdiff_empty, duties_b, bigSep_three, payload_b, payload_b, payload_b]
theorem rest_one (g : GSem nD τ sig) (X : sProp 𝕄) (h : (Rd P).duties g 0 = {0}) (h' : (Rd P).payload g 0 0 = X) :
    bigSep ((Rd P).duties g 0 \ ∅) (fun a => (Rd P).payload g 0 a) = X := by
  rw [Finset.sdiff_empty, h, bigSep_singleton, h']
theorem rest_d : bigSep ((Rd P).duties (dc c k i) 0 \ ∅) (fun a => (Rd P).payload (dc c k i) 0 a) = pay P c k i :=
  rest_one P _ _ (duties_d P c k i) (payload_d P c k i 0)
theorem rest_l : bigSep ((Rd P).duties (lc c) 0 \ ∅) (fun a => (Rd P).payload (lc c) 0 a) = payL P c :=
  rest_one P _ _ (duties_l P c) (payload_l P c 0)

end Sched

/-! ## Levels, and what is owed -/

def L (g : GSem nD τ sig) : Finset Unit := if g.1.2 = .tc then {()} else ∅
/-- Barrier 1, arrivals across `z` 2, across `x` and `y` 3, forwarded halves 4, the rest 0. -/
def lvOf : SemLoc sig → ℕ
  | .reg _ => 1
  | .dma j => ![0, 2, 0, 3, 0, 3, 0, 4, 0, 4] (arrOf j)
def lv (g : GSem nD τ sig) (_ : Unit) : ℕ := lvOf g.2

theorem L_of_ne (g : GSem nD τ sig) (h : g.1.2 ≠ .tc) : L g = ∅ := if_neg h
theorem L_tc (c : Dev nD) (s : SemLoc sig) : L ((c : Thread nD τ), s) = {()} := if_pos rfl
theorem lv_b (c : Dev nD) : lv (bc c) () = 1 := rfl
theorem lv_d (c : Dev nD) (k : Fin 10) (i : Fin 8) : lv (dc c k i) () = ![0, 2, 0, 3, 0, 3, 0, 4, 0, 4] k := by
  show ![0, 2, 0, 3, 0, 3, 0, 4, 0, 4] (arrOf (sm k i)) = _; rw [arrOf_sm]

/-- Everything owed is owed to a tensor core's cell at a level over `n`. -/
def Above (n : ℕ) (O : CellTallies nD τ sig Unit) : Prop := ∀ g u, 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with h1 | h1
  · exact h g u h1
  · exact h' g u h1
theorem above_tally {n : ℕ} {g : GSem nD τ sig} {k : ℕ} (hg : g.1.2 = .tc) (h : n < lv g ()) : Above n (tallyAt g () k) := fun g' u h' => by
  rw [tallyAt_apply] at h'
  by_cases e : g' = g ∧ u = ()
  · rw [e.1]; exact ⟨hg, h⟩
  · rw [if_neg e] at h'; exact absurd h' (Nat.lt_irrefl 0)
theorem above_sum {n : ℕ} {ι : Type} (s : Finset ι) (f : ι → CellTallies nD τ sig Unit) (h : ∀ i ∈ s, Above n (f i)) :
    Above n (∑ i ∈ s, f i) := by
  classical
  induction s using Finset.induction_on with
  | empty => rw [Finset.sum_empty]; exact above_zero n
  | insert a s ha ih =>
    rw [Finset.sum_insert ha]
    exact above_add (h a (Finset.mem_insert_self _ _)) (ih fun i hi => h i (Finset.mem_insert_of_mem hi))

/-- A wait at level at most `n` is allowed while everything owed is over `n`. -/
theorem mayWait (n : ℕ) (c : Dev nD) (s : SemLoc sig) (hs : lv ((c : Thread nD τ), s) () ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

/-- The payments of `n` to the cells `f i` for the chunks from `k` on. -/
def due (k : ℕ) (f : Fin 8 → GSem nD τ sig) (n : ℕ) : CellTallies nD τ sig Unit :=
  ∑ i ∈ Finset.univ.filter (fun i : Fin 8 => k ≤ i.val), tallyAt (f i) () n

theorem due_all (f : Fin 8 → GSem nD τ sig) (n : ℕ) : due 0 f n = ∑ i, tallyAt (f i) () n := by
  unfold due; rw [Finset.filter_true_of_mem fun i _ => Nat.zero_le _]
theorem due_end (f : Fin 8 → GSem nD τ sig) (n : ℕ) : due 8 f n = 0 := by
  unfold due; rw [Finset.filter_false_of_mem fun i _ => by have := i.isLt; omega, Finset.sum_empty]
theorem due_step (i : Fin 8) (f : Fin 8 → GSem nD τ sig) (n : ℕ) : due i.val f n = due (i.val + 1) f n + tallyAt (f i) () n := by
  unfold due
  rw [show Finset.univ.filter (fun j : Fin 8 => i.val ≤ j.val) = insert i (Finset.univ.filter (fun j : Fin 8 => i.val + 1 ≤ j.val)) from by
      ext j; simp only [Finset.mem_filter, Finset.mem_univ, true_and, Finset.mem_insert, Fin.ext_iff]; omega,
    Finset.sum_insert (by simp), add_comm]
theorem above_due {n : ℕ} (k : ℕ) (f : Fin 8 → GSem nD τ sig) (m : ℕ) (hf : ∀ i, (f i).1.2 = .tc ∧ n < lv (f i) ()) : Above n (due k f m) :=
  above_sum _ _ fun i _ => above_tally (hf i).1 (hf i).2

/-- What device `c` still owes its neighbours in transfers: across `z` from chunk `a` on, the sums across `x` and `y`
    from chunk `b` on, the forwarded halves from chunk `e` on. -/
def owedFrom (c : Dev nD) (a b e : ℕ) : CellTallies nD τ sig Unit :=
  due a (dc (zn c) 1) N + (due b (dc (xn c) 3) N + (due b (dc (yn c) 5) N + (due e (dc (yn c) 9) Nh + due e (dc (xn c) 7) Nh)))

/-- What device `c` owes at launch. -/
def O₀ (c : Dev nD) : CellTallies nD τ sig Unit :=
  owedFrom c 0 0 0 + tallyAt (bc (yn c)) () 1 + tallyAt (bc (xn c)) () 1 + tallyAt (bc (zn c)) () 1

theorem above_arr {n : ℕ} (c : Dev nD) (k : Fin 10) (a m : ℕ) (h : n < ![0, 2, 0, 3, 0, 3, 0, 4, 0, 4] k) : Above n (due a (dc c k) m) :=
  above_due _ _ _ fun i => ⟨rfl, by rw [lv_d]; exact h⟩
theorem owedFrom_above (c : Dev nD) (a b e : ℕ) : Above 1 (owedFrom c a b e) :=
  above_add (above_arr _ _ _ _ (by decide)) (above_add (above_arr _ _ _ _ (by decide)) (above_add (above_arr _ _ _ _ (by decide))
    (above_add (above_arr _ _ _ _ (by decide)) (above_arr _ _ _ _ (by decide)))))
theorem O₀_above (c : Dev nD) : Above 0 (O₀ c) :=
  above_add (above_add (above_add (fun g u h => ⟨(owedFrom_above c 0 0 0 g u h).1, Nat.lt_of_succ_lt (owedFrom_above c 0 0 0 g u h).2⟩)
    (above_tally rfl Nat.one_pos)) (above_tally rfl Nat.one_pos)) (above_tally rfl Nat.one_pos)

end Cert.AR

end
-- ==== Proof.Steps.lean ====
/- Each step of the kernel, once for a symbolic device and chunk, and the loops over the chunks. -/
module

public import proofs.«01_k».proof.Proof.Schedule

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Cert.KernelIdeal

variable {F : FTy → Type} [FloatOps F]

local notation "𝕄" => MT nD τ sig Unit (Elt F) ℕ UU ℕ

abbrev 𝒱₀ : Variants := Variants.none

variable (P : Dev nD → Vec F S1024x4096 .bf16)

/-! ## What every device may consult -/

/-- The invariants of all cells under one map of names, round 0 of every barrier cell open, and the levels. -/
def Ctx (K : GSem nD τ sig → ℕ) : sProp 𝕄 :=
  iprop((bigSep Finset.univ fun c : Dev nD => cellInv ER (Rd P) (K (bc c)) (bc c))
    ∗ (bigSep Finset.univ fun x : Dev nD × Fin 10 × Fin 8 => cellInv ER (Rd P) (K (dc x.1 x.2.1 x.2.2)) (dc x.1 x.2.1 x.2.2))
    ∗ (bigSep Finset.univ fun c : Dev nD => cellInv ER (Rd P) (K (lc c)) (lc c))
    ∗ (bigSep Finset.univ fun c : Dev nD => reached ER (bc c) 0)
    ∗ levAts L lv)

instance Ctx_persistent (K : GSem nD τ sig → ℕ) : BI.Persistent (Ctx P K) := by unfold Ctx; infer_instance

variable (K : GSem nD τ sig → ℕ)

theorem at_b (c : Dev nD) : (bigSep Finset.univ fun c : Dev nD => (cellInv ER (Rd P) (K (bc c)) (bc c) : sProp 𝕄)) ⊢ cellInv ER (Rd P) (K (bc c)) (bc c) :=
  bigSep_elim (Φ := fun c : Dev nD => (cellInv ER (Rd P) (K (bc c)) (bc c) : sProp 𝕄)) (Finset.mem_univ c)
theorem at_d (c : Dev nD) (k : Fin 10) (i : Fin 8) :
    (bigSep Finset.univ fun x : Dev nD × Fin 10 × Fin 8 => (cellInv ER (Rd P) (K (dc x.1 x.2.1 x.2.2)) (dc x.1 x.2.1 x.2.2) : sProp 𝕄))
      ⊢ cellInv ER (Rd P) (K (dc c k i)) (dc c k i) :=
  bigSep_elim (Φ := fun x : Dev nD × Fin 10 × Fin 8 => (cellInv ER (Rd P) (K (dc x.1 x.2.1 x.2.2)) (dc x.1 x.2.1 x.2.2) : sProp 𝕄)) (Finset.mem_univ (c, k, i))
theorem at_l (c : Dev nD) : (bigSep Finset.univ fun c : Dev nD => (cellInv ER (Rd P) (K (lc c)) (lc c) : sProp 𝕄)) ⊢ cellInv ER (Rd P) (K (lc c)) (lc c) :=
  bigSep_elim (Φ := fun c : Dev nD => (cellInv ER (Rd P) (K (lc c)) (lc c) : sProp 𝕄)) (Finset.mem_univ c)
theorem at_r (c : Dev nD) : (bigSep Finset.univ fun c : Dev nD => (reached ER (bc c) 0 : sProp 𝕄)) ⊢ reached ER (bc c) 0 :=
  bigSep_elim (Φ := fun c : Dev nD => (reached ER (bc c) 0 : sProp 𝕄)) (Finset.mem_univ c)
theorem ctx_b (c : Dev nD) : Ctx P K ⊢ cellInv ER (Rd P) (K (bc c)) (bc c) := by
  unfold Ctx; iintro ⟨#H, -⟩
  iapply (at_b P K c); iexact H
theorem ctx_d (c : Dev nD) (k : Fin 10) (i : Fin 8) : Ctx P K ⊢ cellInv ER (Rd P) (K (dc c k i)) (dc c k i) := by
  unfold Ctx; iintro ⟨-, #H, -⟩
  iapply (at_d P K c k i); iexact H
theorem ctx_l (c : Dev nD) : Ctx P K ⊢ cellInv ER (Rd P) (K (lc c)) (lc c) := by
  unfold Ctx; iintro ⟨-, -, #H, -⟩
  iapply (at_l P K c); iexact H
theorem ctx_r (c : Dev nD) : Ctx P K ⊢ reached ER (bc c) 0 := by
  unfold Ctx; iintro ⟨-, -, -, #H, -⟩
  iapply (at_r (F := F) c); iexact H
theorem ctx_lev : Ctx P K ⊢ levAts L lv := by
  unfold Ctx; iintro ⟨-, -, -, -, #H⟩
  iexact H

/-- Device `c` owes `O`. -/
def ow (c : Dev nD) (O : CellTallies nD τ sig Unit) : sProp 𝕄 := iprop(∃ W, owes (c : Thread nD τ) O W)

/-- Cell `i` of the array `k` on device `c`: the credit to wait with and the position before its one round; after
    it, the payload and the position behind it. -/
def armed (c : Dev nD) (k : Fin 10) (i : Fin 8) : sProp 𝕄 := iprop(cred (tallyAt (dc c k i) () (amt k)) ∗ atPos ER (dc c k i) 0 ∅ 0)
def fired (c : Dev nD) (k : Fin 10) (i : Fin 8) : sProp 𝕄 := iprop(pay P c k i ∗ atPos ER (dc c k i) 1 ∅ 0)

/-- The tokens of a send of chunk `i` from the cell of the array `k` on `c` to that of the array `k'` on `c'`. -/
def tick (c : Dev nD) (k : Fin 10) (c' : Dev nD) (k' : Fin 10) (i : Fin 8) : sProp 𝕄 :=
  iprop(dutyTok ER (dc c k i) 0 0 ∗ reached ER (dc c k i) 0 ∗ dutyTok ER (dc c' k' i) 0 0)

/-! ## One operation -/

section Ops

variable {α : Type} {s : Shape} {e : EltTy} {sp sp' : Space}

theorem wait_d (c : Dev nD) (k : Fin 10) (i : Fin 8) {src : Memref sig .tc sp s e} {dst : Memref sig .tc sp' s e}
    {hs : src.view.WordExact} {hd : dst.view.WordExact} {kk : PUnit → Prog (TpuEff nD τ sig (Elt F) Λ₀ .tc) α}
    (ha : dst.view.dmaCredit = amt k) (n : ℕ) (hn : lv (dc c k i) () ≤ n) (O : CellTallies nD τ sig Unit) (hO : Above n O)
    (Q : α → sProp 𝕄) :
    iprop(Ctx P K ∗ armed c k i ∗ ow c O ∗ (fired P c k i ∗ ow c O -∗ wp frame (wpE (defs₀ (F := F)) 𝒱₀ (c : Thread nD τ) none) Set.univ (kk ⟨⟩) Q))
      ⊢ wp frame (wpE (defs₀ (F := F)) 𝒱₀ (c : Thread nD τ) none) Set.univ (.op (.waitDma2 (sm k i) src dst hs hd) kk) Q := by
  unfold armed ow fired
  have hw : ∀ R : PUnit → sProp 𝕄, wpE (defs₀ (F := F)) 𝒱₀ (c : Thread nD τ) none Set.univ (.waitDma2 (sm k i) src dst hs hd) R
      = waitSpec (c : Thread nD τ) Set.univ (.dma (sm k i)) (amt k) R := fun R => by
    rw [wpE_waitDma2_eq 𝒱₀ (c : Thread nD τ) none Set.univ R, ha]
  iintro ⟨#HC, ⟨Hc, Ha⟩, ⟨%W, HO⟩, Hk⟩
  iapply (Rounds.wp_wait_rest_token 𝒱₀ ER (Rd P) (c : Thread nD τ) none (κ := K (dc c k i))
      hw (Set.mem_univ _) () (O := O) (W := W)
      (R := 0) (m := 0) (T := ∅) ((Nat.zero_add _).trans (expect_d P c k i).symm)) $$ [Hc Ha HO]
  · isplitr; · iapply (ctx_d P K c k i); iexact HC
    isplitl [Hc]; · iexact Hc
    isplitl [HO]; · iexact HO
    isplitr
    · iapply (mayWait n c (.dma (sm k i)) hn hO); iapply (ctx_lev P K); iexact HC
    iexact Ha
  iintro ⟨HO, Ha, -, Hp⟩
  ihave Hp' := (Entails.of_eq (rest_d P c k i)) $$ Hp
  iapply Hk
  isplitl [Hp' Ha]
  · isplitl [Hp'] <;> iassumption
  iexists _; iexact HO

theorem send_d (c c' : Dev nD) (k k' : Fin 10) (i : Fin 8) {src : Memref sig .tc sp s e} {dst : Memref sig .tc sp' s e}
    {hsc : dst.view.ref.isScScratch = false}
    {hs : src.view.WordExact} {hd : dst.view.WordExact}
    {ht : DmaTarget.Typed (nD := nD) (τ := τ) sp (.dma (sm k' i)) (.remote (Dev.tc c') dst (.dma (sm k i)) hsc)}
    {kk : PUnit → Prog (TpuEff nD τ sig (Elt F) Λ₀ .tc) α}
    (ha : dst.view.dmaCredit = amt k) (hkk : amt k' = amt k)
    {q : PosShare TreeShare} {fs : Buf (Elt F) (src.view.loc (c : Thread nD τ))} {fd : Buf (Elt F) (dst.view.loc (c' : Thread nD τ))}
    (O O' : CellTallies nD τ sig Unit) (hO : O' = O + tallyAt (dc c' k' i) () (amt k))
    (hp₁ : (src.view.loc (c : Thread nD τ) ↦[src.view.set]{q} fs : sProp 𝕄) ⊢ pay P c k i)
    (hp₂ : (dst.view.loc (c' : Thread nD τ) ↦[dst.view.set]{fullShare} (dst.view.write (Elt F) fd (src.view.read (Elt F) fs) Finset.univ) : sProp 𝕄)
      ⊢ pay P c' k' i) (Q : α → sProp 𝕄) :
    iprop(Ctx P K ∗ tick c k c' k' i ∗ reached ER (dc c' k' i) 0 ∗ (src.view.loc (c : Thread nD τ) ↦[src.view.set]{q} fs)
        ∗ (dst.view.loc (c' : Thread nD τ) ↦[dst.view.set]{fullShare} fd) ∗ ow c O'
        ∗ (cred (tallyAt (dc c k i) () (amt k)) ∗ ow c O -∗ wp frame (wpE (defs₀ (F := F)) 𝒱₀ (c : Thread nD τ) none) Set.univ (kk ⟨⟩) Q))
      ⊢ wp frame (wpE (defs₀ (F := F)) 𝒱₀ (c : Thread nD τ) none) Set.univ
          (.op (.enqueueDma src (.remote (Dev.tc c') dst (.dma (sm k i)) hsc) (.dma (sm k' i)) hs hd ht) kk) Q := by
  unfold tick ow
  have h1 : (0 : Fin 3) ∈ (Rd P).duties (dc c k i) 0 := by rw [duties_d]; exact Finset.mem_singleton_self _
  have h2 : (0 : Fin 3) ∈ (Rd P).duties (dc c' k' i) 0 := by rw [duties_d]; exact Finset.mem_singleton_self _
  have h3 : (src.view.loc (c : Thread nD τ) ↦[src.view.set]{q} fs : sProp 𝕄) ⊢ (Rd P).payload (dc c k i) 0 0 := by rw [payload_d]; exact hp₁
  have h4 : (dst.view.loc (c' : Thread nD τ) ↦[dst.view.set]{fullShare} (dst.view.write (Elt F) fd (src.view.read (Elt F) fs) Finset.univ) : sProp 𝕄)
      ⊢ (Rd P).payload (dc c' k' i) 0 0 := by rw [payload_d]; exact hp₂
  have hr : τ.routes (c : Thread nD τ) (c' : Thread nD τ) = true := by routes
  iintro ⟨#HC, ⟨Ht, #Hr, Ht'⟩, #Hr', Hs, Hd, ⟨%W, HO⟩, Hk⟩
  iapply (Rounds.wp_send_pointsTo 𝒱₀ ER (Rd P) (c : Thread nD τ) none (c' := (c' : Thread nD τ)) (src := src) (dst := dst)
      (sS := .dma (sm k i)) (sem := .dma (sm k' i)) (q := q) (fs := fs) (κ₁ := K (dc c k i)) (κ₂ := K (dc c' k' i))
      (r₁ := 0) (r₂ := 0) (d₁ := 0) (d₂ := 0) (fd := fd)
      h1 h2 () () (amt k) ha (amount_d P c k i 0) ((amount_d P c' k' i 0).trans hkk) O hO (W := W)
      h3 h4 (hr := hr)) $$ [Ht Ht' Hs Hd HO]
  · isplitr; · iapply (ctx_d P K c k i); iexact HC
    isplitr; · iapply (ctx_d P K c' k' i); iexact HC
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Ops

/-! ## What lands -/

theorem land_z (c : Dev nD) (i : Fin 8) (fd : Buf (Elt F) (zLoc (zn c))) :
    ((zC i).view.loc (zn c : Thread nD τ) ↦[(zC i).view.set]{fullShare} ((zC i).view.write (Elt F) fd ((pC i).view.read (Elt F) (P c)) Finset.univ) : sProp 𝕄)
      ⊢ pay P (zn c) 1 i := by
  refine Entails.of_eq ((landed_congr (c : Thread nD τ) (zn c : Thread nD τ) (pC i) (zC i) (P c) fd (P c) fun x => rfl).trans ?_)
  unfold pay; dsimp only; rw [zn_zn]

theorem res_read (c d : Dev nD) (i : Fin 8) (hd : res P d = res P c) (x : S128x4096.Idx) :
    (zC i).view.read (Elt F) (sums P c) x = (oM c i).view.read (Elt F) (res P d) x := by
  rw [View.read_apply, View.read_apply, hd]
  refine congrArg (cast _) ?_
  unfold res
  exact (gathered_own (sums P) c _ _ (by rw [oM_emb0, zC_emb0]; omega) (by rw [oM_emb1, zC_emb1])).symm

theorem res_x (c : Dev nD) : res P (xn c) = res P c := gathered_x _ _
theorem res_y (c : Dev nD) : res P (yn c) = res P c := gathered_y _ _

theorem land_x (c : Dev nD) (i : Fin 8) (fd : Buf (Elt F) (oLoc (xn c))) :
    ((oM c i).view.loc (xn c : Thread nD τ) ↦[(oM c i).view.set]{fullShare} ((oM c i).view.write (Elt F) fd ((zC i).view.read (Elt F) (sums P c)) Finset.univ) : sProp 𝕄)
      ⊢ pay P (xn c) 3 i := by
  refine Entails.of_eq ((landed_congr (c : Thread nD τ) (xn c : Thread nD τ) (zC i) (oM c i) (sums P c) fd (res P (xn c))
    (res_read P c _ i (res_x P c))).trans ?_)
  unfold pay; dsimp only; rw [xn_xn]
theorem land_y (c : Dev nD) (i : Fin 8) (fd : Buf (Elt F) (oLoc (yn c))) :
    ((oM c i).view.loc (yn c : Thread nD τ) ↦[(oM c i).view.set]{fullShare} ((oM c i).view.write (Elt F) fd ((zC i).view.read (Elt F) (sums P c)) Finset.univ) : sProp 𝕄)
      ⊢ pay P (yn c) 5 i := by
  refine Entails.of_eq ((landed_congr (c : Thread nD τ) (yn c : Thread nD τ) (zC i) (oM c i) (sums P c) fd (res P (yn c))
    (res_read P c _ i (res_y P c))).trans ?_)
  unfold pay; dsimp only; rw [yn_yn]
theorem land_l (c : Dev nD) (i : Fin 8) (fd : Buf (Elt F) (oLoc (yn c))) :
    ((oL c i).view.loc (yn c : Thread nD τ) ↦[(oL c i).view.set]{fullShare} ((oL c i).view.write (Elt F) fd ((oL c i).view.read (Elt F) (res P c)) Finset.univ) : sProp 𝕄)
      ⊢ pay P (yn c) 9 i := by
  refine Entails.of_eq ((landed_congr (c : Thread nD τ) (yn c : Thread nD τ) (oL c i) (oL c i) (res P c) fd (res P (yn c))
    (fun x => by rw [res_y])).trans ?_)
  unfold pay; dsimp only; rw [yn_yn]
theorem land_r (c : Dev nD) (i : Fin 8) (fd : Buf (Elt F) (oLoc (xn c))) :
    ((oR c i).view.loc (xn c : Thread nD τ) ↦[(oR c i).view.set]{fullShare} ((oR c i).view.write (Elt F) fd ((oR c i).view.read (Elt F) (res P c)) Finset.univ) : sProp 𝕄)
      ⊢ pay P (xn c) 7 i := by
  refine Entails.of_eq ((landed_congr (c : Thread nD τ) (xn c : Thread nD τ) (oR c i) (oR c i) (res P c) fd (res P (xn c))
    (fun x => by rw [res_x])).trans ?_)
  unfold pay; dsimp only; rw [xn_xn]
theorem land_own (c : Dev nD) (fd : Buf (Elt F) (oLoc c)) :
    ((oO c).view.loc (c : Thread nD τ) ↦[(oO c).view.set]{fullShare} ((oO c).view.write (Elt F) fd (zB.view.read (Elt F) (sums P c)) Finset.univ) : sProp 𝕄)
      = (oLoc c) ↦[(oO c).view.set]{fullShare} (res P c) :=
  landed_congr (c : Thread nD τ) (c : Thread nD τ) zB (oO c) (sums P c) fd (res P c) fun x => by
    rw [View.read_whole, View.read_apply]
    unfold res
    exact (gathered_own (sums P) c _ x (oO_emb0 c x) (oO_emb1 c x)).symm

/-- The chunk of sums, as the store leaves it. -/
theorem stored (c : Dev nD) (i : Fin 8) :
    (((zB.access (rC i)).loc (c : Thread nD τ)) ↦[(zC i).view.set]{fullShare} ((zB.access (rC i)).write (Elt F) (P (zn c))
        (Gen.k0_pay1 (F := F) ((pB.access (rC i)).read (Elt F) (P c)) ((zB.access (rC i)).read (Elt F) (P (zn c)))) Finset.univ) : sProp 𝕄)
      = (zLoc c) ↦[(zC i).view.set]{fullShare} (sums P c) := pointsTo_congr fun j hj => by
  obtain ⟨x, -, rfl⟩ := Finset.mem_map.mp hj
  have h0 := zC_emb0 i x
  have h1 := zC_emb1 i x
  have hx : (x 0).val < 128 := (x 0).isLt
  have hi : (⟨(((zC i).view.emb x : S1024x4096.Idx) 0).val / 128, by rw [h0]; have := i.isLt; omega⟩ : Fin 8) = i :=
    Fin.ext (by dsimp only; rw [h0]; omega)
  refine (View.write_emb_of_mem (v := zB.access (rC i)) _ _ (Finset.mem_univ x)).trans ?_
  unfold sums
  rw [cast_eq, hi]
  refine congrArg _ ((eq_ix2 x).trans (congrArg₂ ix2 (Fin.ext ?_) (Fin.ext h1.symm)))
  dsimp only; rw [h0]; omega

end Cert.AR

end
-- ==== Proof.Loops.lean ====
/- The kernel's steps with what each takes and gives, and the loops of eight. -/
module

public import proofs.«01_k».proof.Proof.Steps

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ UU ℕ

variable (P : Dev nD → Vec F S1024x4096 .bf16) (K : GSem nD τ sig → ℕ)

/-! ## Eight in a row -/

theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide, bigSep_insert (by decide), bigSep_insert (by decide),
    bigSep_insert (by decide), bigSep_insert (by decide), bigSep_insert (by decide), bigSep_insert (by decide), bigSep_insert (by decide),
    bigSep_singleton]
  rfl

/-- A loop over the chunks: each step takes its own part `A i` and gives `B i`, the state `S` runs along. -/
theorem wp_each8 (c : Dev nD) (R : sProp 𝕄) [BI.Persistent R] (A B : Fin 8 → sProp 𝕄) (S : ℕ → sProp 𝕄)
    (f : Fin 8 → Prog (TpuEff nD τ sig (Elt F) Λ₀ .tc) PUnit)
    (h : ∀ (i : Fin 8) (Q : PUnit → sProp 𝕄), iprop(R ∗ A i ∗ S i.val ∗ (B i ∗ S (i.val + 1) -∗ Q ⟨⟩))
      ⊢ wp frame (wpE (defs₀ (F := F)) 𝒱₀ (c : Thread nD τ) none) Set.univ (f i) Q)
    (Q : PUnit → sProp 𝕄) :
    iprop(R ∗ bigSep Finset.univ A ∗ S 0 ∗ (bigSep Finset.univ B ∗ S 8 -∗ Q ⟨⟩))
      ⊢ wp frame (wpE (defs₀ (F := F)) 𝒱₀ (c : Thread nD τ) none) Set.univ (each8 f) Q := by
  have h0 (Q : PUnit → sProp 𝕄) : iprop(R ∗ A 0 ∗ S 0 ∗ (B 0 ∗ S 1 -∗ Q ⟨⟩)) ⊢ wp frame (wpE (defs₀ (F := F)) 𝒱₀ (c : Thread nD τ) none) Set.univ (f 0) Q := h 0 Q
  have h1 (Q : PUnit → sProp 𝕄) : iprop(R ∗ A 1 ∗ S 1 ∗ (B 1 ∗ S 2 -∗ Q ⟨⟩)) ⊢ wp frame (wpE (defs₀ (F := F)) 𝒱₀ (c : Thread nD τ) none) Set.univ (f 1) Q := h 1 Q
  have h2 (Q : PUnit → sProp 𝕄) : iprop(R ∗ A 2 ∗ S 2 ∗ (B 2 ∗ S 3 -∗ Q ⟨⟩)) ⊢ wp frame (wpE (defs₀ (F := F)) 𝒱₀ (c : Thread nD τ) none) Set.univ (f 2) Q := h 2 Q
  have h3 (Q : PUnit → sProp 𝕄) : iprop(R ∗ A 3 ∗ S 3 ∗ (B 3 ∗ S 4 -∗ Q ⟨⟩)) ⊢ wp frame (wpE (defs₀ (F := F)) 𝒱₀ (c : Thread nD τ) none) Set.univ (f 3) Q := h 3 Q
  have h4 (Q : PUnit → sProp 𝕄) : iprop(R ∗ A 4 ∗ S 4 ∗ (B 4 ∗ S 5 -∗ Q ⟨⟩)) ⊢ wp frame (wpE (defs₀ (F := F)) 𝒱₀ (c : Thread nD τ) none) Set.univ (f 4) Q := h 4 Q
  have h5 (Q : PUnit → sProp 𝕄) : iprop(R ∗ A 5 ∗ S 5 ∗ (B 5 ∗ S 6 -∗ Q ⟨⟩)) ⊢ wp frame (wpE (defs₀ (F := F)) 𝒱₀ (c : Thread nD τ) none) Set.univ (f 5) Q := h 5 Q
  have h6 (Q : PUnit → sProp 𝕄) : iprop(R ∗ A 6 ∗ S 6 ∗ (B 6 ∗ S 7 -∗ Q ⟨⟩)) ⊢ wp frame (wpE (defs₀ (F := F)) 𝒱₀ (c : Thread nD τ) none) Set.univ (f 6) Q := h 6 Q
  have h7 (Q : PUnit → sProp 𝕄) : iprop(R ∗ A 7 ∗ S 7 ∗ (B 7 ∗ S 8 -∗ Q ⟨⟩)) ⊢ wp frame (wpE (defs₀ (F := F)) 𝒱₀ (c : Thread nD τ) none) Set.univ (f 7) Q := h 7 Q
  rw [bigSep_eight, bigSep_eight]
  unfold each8
  simp only [wp_bind]
  iintro ⟨#HR, ⟨A0, A1, A2, A3, A4, A5, A6, A7⟩, HS, Hk⟩
  iapply (h0 _); isplitr; · iexact HR
  isplitl [A0]; · iexact A0
  isplitl [HS]; · iexact HS
  iintro ⟨B0, HS⟩
  iapply (h1 _); isplitr; · iexact HR
  isplitl [A1]; · iexact A1
  isplitl [HS]; · iexact HS
  iintro ⟨B1, HS⟩
  iapply (h2 _); isplitr; · iexact HR
  isplitl [A2]; · iexact A2
  isplitl [HS]; · iexact HS
  iintro ⟨B2, HS⟩
  iapply (h3 _); isplitr; · iexact HR
  isplitl [A3]; · iexact A3
  isplitl [HS]; · iexact HS
  iintro ⟨B3, HS⟩
  iapply (h4 _); isplitr; · iexact HR
  isplitl [A4]; · iexact A4
  isplitl [HS]; · iexact HS
  iintro ⟨B4, HS⟩
  iapply (h5 _); isplitr; · iexact HR
  isplitl [A5]; · iexact A5
  isplitl [HS]; · iexact HS
  iintro ⟨B5, HS⟩
  iapply (h6 _); isplitr; · iexact HR
  isplitl [A6]; · iexact A6
  isplitl [HS]; · iexact HS
  iintro ⟨B6, HS⟩
  iapply (h7 _); isplitr; · iexact HR
  isplitl [A7]; · iexact A7
  isplitl [HS]; · iexact HS
  iintro ⟨B7, HS⟩
  iapply Hk
  isplitl [B0 B1 B2 B3 B4 B5 B6 B7]
  · isplitl [B0]; · iexact B0
    isplitl [B1]; · iexact B1
    isplitl [B2]; · iexact B2
    isplitl [B3]; · iexact B3
    isplitl [B4]; · iexact B4
    isplitl [B5]; · iexact B5
    isplitl [B6] <;> iassumption
  iexact HS

/-! ## What is owed along the loops -/

theorem above_due8 (n : ℕ) (f : Fin 8 → GSem nD τ sig) (m : ℕ) : Above n (due 8 f m) := by rw [due_end]; exact above_zero n
theorem owed_above2 (c : Dev nD) (b e : ℕ) : Above 2 (owedFrom c 8 b e) :=
  above_add (above_due8 _ _ _) (above_add (above_arr _ _ _ _ (by decide)) (above_add (above_arr _ _ _ _ (by decide))
    (above_add (above_arr _ _ _ _ (by decide)) (above_arr _ _ _ _ (by decide)))))
theorem owed_above3 (c : Dev nD) (e : ℕ) : Above 3 (owedFrom c 8 8 e) :=
  above_add (above_due8 _ _ _) (above_add (above_due8 _ _ _) (above_add (above_due8 _ _ _)
    (above_add (above_arr _ _ _ _ (by decide)) (above_arr _ _ _ _ (by decide)))))
theorem owed_end (c : Dev nD) : owedFrom c 8 8 8 = 0 := by
  unfold owedFrom; simp only [due_end, add_zero]

theorem owed_z (c : Dev nD) (i : Fin 8) (b e : ℕ) :
    owedFrom c i.val b e = owedFrom c (i.val + 1) b e + tallyAt (dc (zn c) 1 i) () (amt 0) := by
  unfold owedFrom; rw [due_step i (dc (zn c) 1)]; exact add_right_comm _ _ _

/-- After the sum's send across `x`, before the one across `y`. -/
def owedMid (c : Dev nD) (a b e : ℕ) : CellTallies nD τ sig Unit :=
  due a (dc (zn c) 1) N + (due (b + 1) (dc (xn c) 3) N + (due b (dc (yn c) 5) N + (due e (dc (yn c) 9) Nh + due e (dc (xn c) 7) Nh)))
theorem owed_x (c : Dev nD) (i : Fin 8) (a e : ℕ) : owedFrom c a i.val e = owedMid c a i.val e + tallyAt (dc (xn c) 3 i) () (amt 2) := by
  unfold owedFrom owedMid; rw [due_step i (dc (xn c) 3), add_right_comm (due (i.val + 1) (dc (xn c) 3) N), ← add_assoc]; rfl
theorem owed_y (c : Dev nD) (i : Fin 8) (a e : ℕ) : owedMid c a i.val e = owedFrom c a (i.val + 1) e + tallyAt (dc (yn c) 5 i) () (amt 4) := by
  unfold owedFrom owedMid
  rw [due_step i (dc (yn c) 5), add_right_comm (due (i.val + 1) (dc (yn c) 5) N), ← add_assoc (due (i.val + 1) (dc (xn c) 3) N),
    ← add_assoc (due a (dc (zn c) 1) N)]; rfl

/-- After the left half's send across `y`, before the right half's across `x`. -/
def owedHalf (c : Dev nD) (a b e : ℕ) : CellTallies nD τ sig Unit :=
  due a (dc (zn c) 1) N + (due b (dc (xn c) 3) N + (due b (dc (yn c) 5) N + (due (e + 1) (dc (yn c) 9) Nh + due e (dc (xn c) 7) Nh)))
theorem owed_l (c : Dev nD) (i : Fin 8) (a b : ℕ) : owedFrom c a b i.val = owedHalf c a b i.val + tallyAt (dc (yn c) 9 i) () (amt 8) := by
  unfold owedFrom owedHalf
  rw [due_step i (dc (yn c) 9), add_right_comm (due (i.val + 1) (dc (yn c) 9) Nh), ← add_assoc (due b (dc (yn c) 5) N),
    ← add_assoc (due b (dc (xn c) 3) N), ← add_assoc (due a (dc (zn c) 1) N)]; rfl
theorem owed_r (c : Dev nD) (i : Fin 8) (a b : ℕ) : owedHalf c a b i.val = owedFrom c a b (i.val + 1) + tallyAt (dc (xn c) 7 i) () (amt 6) := by
  unfold owedFrom owedHalf
  rw [due_step i (dc (xn c) 7), ← add_assoc (due (i.val + 1) (dc (yn c) 9) Nh), ← add_assoc (due b (dc (yn c) 5) N),
    ← add_assoc (due b (dc (xn c) 3) N), ← add_assoc (due a (dc (zn c) 1) N)]; rfl
theorem owedHalf_above3 (c : Dev nD) (e : ℕ) : Above 3 (owedHalf c 8 8 e) :=
  above_add (above_due8 _ _ _) (above_add (above_due8 _ _ _) (above_add (above_due8 _ _ _)
    (above_add (above_arr _ _ _ _ (by decide)) (above_arr _ _ _ _ (by decide)))))

/-! ## The chunk's send across `z` -/

def zA (c : Dev nD) (i : Fin 8) : sProp 𝕄 :=
  iprop(((pLoc c) ↦[(pC i).view.set]{qL} (P c)) ∗ tick c 0 (zn c) 1 i ∗ grantZ (zn c) i)
def crd (c : Dev nD) (k : Fin 10) (i : Fin 8) : sProp 𝕄 := cred (tallyAt (dc c k i) () (amt k))

theorem zStart_run (c : Dev nD) (i : Fin 8) (Q : PUnit → sProp 𝕄) :
    iprop(Ctx P K ∗ zA P c i ∗ ow c (owedFrom c i.val 0 0) ∗ (crd c 0 i ∗ ow c (owedFrom c (i.val + 1) 0 0) -∗ Q ⟨⟩))
      ⊢ wp frame (wpE (defs₀ (F := F)) 𝒱₀ (c : Thread nD τ) none) Set.univ (zStart c i) Q := by
  unfold zA grantZ zAny crd zStart
  simp only [Prog.lift]
  iintro ⟨#HC, ⟨Hp, Ht, ⟨%fd, Hz⟩, #Hr⟩, HO, Hk⟩
  iapply (send_d P K c (zn c) 0 1 i (src := pC i) (dst := zC i) (am_chunk _) rfl (q := qL) (fs := P c) (fd := fd)
    (owedFrom c (i.val + 1) 0 0) _ (owed_z c i 0 0) (by unfold pay; exact BI.Entails.refl _) (land_z P c i fd) Q)
  isplitr; · iexact HC
  isplitl [Ht]; · iexact Ht
  isplitr; · iexact Hr
  isplitl [Hp]; · iexact Hp
  isplitl [Hz]; · iexact Hz
  isplitl [HO]; · iexact HO
  iintro ⟨Hc, HO⟩
  rw [wp_ret]; imodintro
  iapply Hk
  isplitl [Hc] <;> iassumption

/-! ## The chunk's sum, and its sends across `x` and `y` -/

def sA (c : Dev nD) (i : Fin 8) : sProp 𝕄 :=
  iprop(armed c 1 i ∗ ((pLoc c) ↦[(pC i).view.set]{qR} (P c))
    ∗ (tick c 2 (xn c) 3 i ∗ oAny (xn c) (oM c i).view.set ∗ reached ER (dc (xn c) 3 i) 0)
    ∗ (tick c 4 (yn c) 5 i ∗ oAny (yn c) (oM c i).view.set ∗ reached ER (dc (yn c) 5 i) 0))
def sB (c : Dev nD) (i : Fin 8) : sProp 𝕄 :=
  iprop(atPos ER (dc c 1 i) 1 ∅ 0 ∗ ((pLoc c) ↦[(pC i).view.set]{qR} (P c)) ∗ ((zLoc c) ↦[(zC i).view.set]{qL} (sums P c))
    ∗ crd c 2 i ∗ crd c 4 i)

theorem sumStep_run (c : Dev nD) (i : Fin 8) (Q : PUnit → sProp 𝕄) :
    iprop(Ctx P K ∗ sA P c i ∗ ow c (owedFrom c 8 i.val 0) ∗ (sB P c i ∗ ow c (owedFrom c 8 (i.val + 1) 0) -∗ Q ⟨⟩))
      ⊢ wp frame (wpE (defs₀ (F := F)) 𝒱₀ (c : Thread nD τ) none) Set.univ (sumStep c i) Q := by
  unfold sA sB oAny crd sumStep
  simp only [Prog.lift, Prog.bind_op, Prog.bind_ret]
  iintro ⟨#HC, ⟨Ha, Hp, ⟨Htx, ⟨%fx, Hox⟩, #Hrx⟩, ⟨Hty, ⟨%fy, Hoy⟩, #Hry⟩⟩, HO, Hk⟩
  iapply (wait_d P K c 1 i (src := pC i) (dst := zC i) (am_chunk _) 2 (by rw [lv_d]; decide) _ (owed_above2 c i.val 0) Q)
  isplitr; · iexact HC
  isplitl [Ha]; · iexact Ha
  isplitl [HO]; · iexact HO
  unfold fired pay; dsimp only
  iintro ⟨⟨Hz, Ha⟩, HO⟩
  iapply (wp_load_rect 𝒱₀ (c : Thread nD τ) none Set.univ (m := pB) (r := rC i) (S := (pC i).view.set) (f := P c) (Finset.Subset.refl _)) $$ Hp
  iintro Hp
  iapply (wp_load_rect 𝒱₀ (c : Thread nD τ) none Set.univ (m := zB) (r := rC i) (S := (zC i).view.set) (f := P (zn c)) (Finset.Subset.refl _)) $$ Hz
  iintro Hz
  iapply (wp_load_rect 𝒱₀ (c : Thread nD τ) none Set.univ (m := zB) (r := rC i) (S := (zC i).view.set) (f := P (zn c)) (Finset.Subset.refl _)) $$ Hz
  iintro Hz
  iapply (wp_store 𝒱₀ (c : Thread nD τ) none Set.univ (m := zB) (r := rC i) (S := (zC i).view.set) (f := P (zn c)) (Finset.Subset.refl _)) $$ Hz
  iintro Hz
  ihave Hz := (Entails.of_eq (stored P c i)) $$ Hz
  ihave Hz := (Entails.of_eq (share_eq (I := (zC i).view.set) fullShare (sums P c))) $$ Hz
  icases Hz with ⟨HzL, Hz⟩
  ihave Hz := (Entails.of_eq (share_eq (I := (zC i).view.set) fullShare.right (sums P c))) $$ Hz
  icases Hz with ⟨HzX, HzY⟩
  iapply (send_d P K c (xn c) 2 3 i (src := zC i) (dst := oM c i) (am_chunk _) rfl (q := qX) (fs := sums P c) (fd := fx)
    (owedMid c 8 i.val 0) _ (owed_x c i 8 0) (by unfold pay; exact BI.Entails.refl _) (land_x P c i fx) Q)
  isplitr; · iexact HC
  isplitl [Htx]; · iexact Htx
  isplitr; · iexact Hrx
  isplitl [HzX]; · iexact HzX
  isplitl [Hox]; · iexact Hox
  isplitl [HO]; · iexact HO
  iintro ⟨Hcx, HO⟩
  iapply (send_d P K c (yn c) 4 5 i (src := zC i) (dst := oM c i) (am_chunk _) rfl (q := qY) (fs := sums P c) (fd := fy)
    (owedFrom c 8 (i.val + 1) 0) _ (owed_y c i 8 0) (by unfold pay; exact BI.Entails.refl _) (land_y P c i fy) Q)
  isplitr; · iexact HC
  isplitl [Hty]; · iexact Hty
  isplitr; · iexact Hry
  isplitl [HzY]; · iexact HzY
  isplitl [Hoy]; · iexact Hoy
  isplitl [HO]; · iexact HO
  iintro ⟨Hcy, HO⟩
  rw [wp_ret]; imodintro
  iapply Hk
  isplitr [HO]
  · isplitl [Ha]; · iexact Ha
    isplitl [Hp]; · iexact Hp
    isplitl [HzL]; · iexact HzL
    isplitl [Hcx] <;> iassumption
  iexact HO

/-! ## The halves' sends -/

def fA (c : Dev nD) (i : Fin 8) : sProp 𝕄 :=
  iprop(armed c 3 i ∗ armed c 5 i
    ∗ (tick c 8 (yn c) 9 i ∗ oAny (yn c) (oL c i).view.set ∗ reached ER (dc (yn c) 9 i) 0)
    ∗ (tick c 6 (xn c) 7 i ∗ oAny (xn c) (oR c i).view.set ∗ reached ER (dc (xn c) 7 i) 0))
def fB (c : Dev nD) (i : Fin 8) : sProp 𝕄 :=
  iprop(atPos ER (dc c 3 i) 1 ∅ 0 ∗ atPos ER (dc c 5 i) 1 ∅ 0
    ∗ ((oLoc c) ↦[(oM (xn c) i).view.set \ (oL c i).view.set]{fullShare} (res P c))
    ∗ ((oLoc c) ↦[(oM (yn c) i).view.set \ (oR c i).view.set]{fullShare} (res P c))
    ∗ crd c 8 i ∗ crd c 6 i)

theorem fwdStep_run (c : Dev nD) (i : Fin 8) (Q : PUnit → sProp 𝕄) :
    iprop(Ctx P K ∗ fA c i ∗ ow c (owedFrom c 8 8 i.val) ∗ (fB P c i ∗ ow c (owedFrom c 8 8 (i.val + 1)) -∗ Q ⟨⟩))
      ⊢ wp frame (wpE (defs₀ (F := F)) 𝒱₀ (c : Thread nD τ) none) Set.univ (fwdStep c i) Q := by
  unfold fA fB oAny crd fwdStep
  simp only [Prog.lift, Prog.bind_op, Prog.bind_ret]
  iintro ⟨#HC, ⟨Hax, Hay, ⟨Htl, ⟨%fl, Hol⟩, #Hrl⟩, ⟨Htr, ⟨%fr, Hor⟩, #Hrr⟩⟩, HO, Hk⟩
  iapply (wait_d P K c 3 i (src := zC i) (dst := oM c i) (am_chunk _) 3 (by rw [lv_d]; decide) _ (owed_above3 c i.val) Q)
  isplitr; · iexact HC
  isplitl [Hax]; · iexact Hax
  isplitl [HO]; · iexact HO
  unfold fired pay; dsimp only
  iintro ⟨⟨Hx, Hax⟩, HO⟩
  ihave Hx := (Entails.of_eq (sub_eq (oL_sub c i))) $$ Hx
  icases Hx with ⟨Hl, Hx⟩
  iapply (send_d P K c (yn c) 8 9 i (src := oL c i) (dst := oL c i) (am_half _) rfl (q := fullShare) (fs := res P c) (fd := fl)
    (owedHalf c 8 8 i.val) _ (owed_l c i 8 8) (by unfold pay; exact BI.Entails.refl _) (land_l P c i fl) Q)
  isplitr; · iexact HC
  isplitl [Htl]; · iexact Htl
  isplitr; · iexact Hrl
  isplitl [Hl]; · iexact Hl
  isplitl [Hol]; · iexact Hol
  isplitl [HO]; · iexact HO
  iintro ⟨Hcl, HO⟩
  iapply (wait_d P K c 5 i (src := zC i) (dst := oM c i) (am_chunk _) 3 (by rw [lv_d]; decide) _ (owedHalf_above3 c i.val) Q)
  isplitr; · iexact HC
  isplitl [Hay]; · iexact Hay
  isplitl [HO]; · iexact HO
  unfold fired pay; dsimp only
  iintro ⟨⟨Hy, Hay⟩, HO⟩
  ihave Hy := (Entails.of_eq (sub_eq (oR_sub c i))) $$ Hy
  icases Hy with ⟨Hr, Hy⟩
  iapply (send_d P K c (xn c) 6 7 i (src := oR c i) (dst := oR c i) (am_half _) rfl (q := fullShare) (fs := res P c) (fd := fr)
    (owedFrom c 8 8 (i.val + 1)) _ (owed_r c i 8 8) (by unfold pay; exact BI.Entails.refl _) (land_r P c i fr) Q)
  isplitr; · iexact HC
  isplitl [Htr]; · iexact Htr
  isplitr; · iexact Hrr
  isplitl [Hr]; · iexact Hr
  isplitl [Hor]; · iexact Hor
  isplitl [HO]; · iexact HO
  iintro ⟨Hcr, HO⟩
  rw [wp_ret]; imodintro
  iapply Hk
  isplitr [HO]
  · isplitl [Hax]; · iexact Hax
    isplitl [Hay]; · iexact Hay
    isplitl [Hx]; · iexact Hx
    isplitl [Hy]; · iexact Hy
    isplitl [Hcl] <;> iassumption
  iexact HO

/-! ## The waits that are left -/

def dA (c : Dev nD) (i : Fin 8) : sProp 𝕄 :=
  iprop(armed c 0 i ∗ armed c 2 i ∗ armed c 4 i ∗ armed c 8 i ∗ armed c 6 i ∗ armed c 9 i ∗ armed c 7 i)
def dB (c : Dev nD) (i : Fin 8) : sProp 𝕄 :=
  iprop(fired P c 0 i ∗ fired P c 2 i ∗ fired P c 4 i ∗ fired P c 8 i ∗ fired P c 6 i ∗ fired P c 9 i ∗ fired P c 7 i)

theorem drainStep_run (c : Dev nD) (i : Fin 8) (Q : PUnit → sProp 𝕄) :
    iprop(Ctx P K ∗ dA c i ∗ ow c 0 ∗ (dB P c i ∗ ow c 0 -∗ Q ⟨⟩))
      ⊢ wp frame (wpE (defs₀ (F := F)) 𝒱₀ (c : Thread nD τ) none) Set.univ (drainStep c i) Q := by
  unfold dA dB drainStep
  simp only [Prog.lift, Prog.bind_op, Prog.bind_ret]
  iintro ⟨#HC, ⟨H0, H2, H4, H8, H6, H9, H7⟩, HO, Hk⟩
  iapply (wait_d P K c 0 i (am_chunk _) 4 (by rw [lv_d]; decide) _ (above_zero 4) Q)
  isplitr; · iexact HC
  isplitl [H0]; · iexact H0
  isplitl [HO]; · iexact HO
  iintro ⟨H0, HO⟩
  iapply (wait_d P K c 2 i (am_chunk _) 4 (by rw [lv_d]; decide) _ (above_zero 4) Q)
  isplitr; · iexact HC
  isplitl [H2]; · iexact H2
  isplitl [HO]; · iexact HO
  iintro ⟨H2, HO⟩
  iapply (wait_d P K c 4 i (am_chunk _) 4 (by rw [lv_d]; decide) _ (above_zero 4) Q)
  isplitr; · iexact HC
  isplitl [H4]; · iexact H4
  isplitl [HO]; · iexact HO
  iintro ⟨H4, HO⟩
  iapply (wait_d P K c 8 i (am_half _) 4 (by rw [lv_d]; decide) _ (above_zero 4) Q)
  isplitr; · iexact HC
  isplitl [H8]; · iexact H8
  isplitl [HO]; · iexact HO
  iintro ⟨H8, HO⟩
  iapply (wait_d P K c 6 i (am_half _) 4 (by rw [lv_d]; decide) _ (above_zero 4) Q)
  isplitr; · iexact HC
  isplitl [H6]; · iexact H6
  isplitl [HO]; · iexact HO
  iintro ⟨H6, HO⟩
  iapply (wait_d P K c 9 i (am_half _) 4 (by rw [lv_d]; decide) _ (above_zero 4) Q)
  isplitr; · iexact HC
  isplitl [H9]; · iexact H9
  isplitl [HO]; · iexact HO
  iintro ⟨H9, HO⟩
  iapply (wait_d P K c 7 i (am_half _) 4 (by rw [lv_d]; decide) _ (above_zero 4) Q)
  isplitr; · iexact HC
  isplitl [H7]; · iexact H7
  isplitl [HO]; · iexact HO
  iintro ⟨H7, HO⟩
  rw [wp_ret]; imodintro
  iapply Hk
  isplitr [HO]
  · isplitl [H0]; · iexact H0
    isplitl [H2]; · iexact H2
    isplitl [H4]; · iexact H4
    isplitl [H8]; · iexact H8
    isplitl [H6]; · iexact H6
    isplitl [H9] <;> iassumption
  iexact HO

/-! ## One's own block -/

theorem ownStart_run (c : Dev nD) (Q : PUnit → sProp 𝕄) :
    iprop(Ctx P K ∗ ((zLoc c) ↦{qL} (sums P c)) ∗ oAny c (oO c).view.set ∗ dutyTok ER (lc c) 0 0 ∗ reached ER (lc c) 0
        ∗ (cred (tallyAt (lc c) () NL) -∗ Q ⟨⟩))
      ⊢ wp frame (wpE (defs₀ (F := F)) 𝒱₀ (c : Thread nD τ) none) Set.univ (ownStart c) Q := by
  have h1 : (0 : Fin 3) ∈ (Rd P).duties (lc c) 0 := by rw [duties_l]; exact Finset.mem_singleton_self _
  unfold oAny ownStart
  simp only [Prog.lift]
  iintro ⟨#HC, Hz, ⟨%fd, Ho⟩, Ht, #Hr, Hk⟩
  have hz : ((zB.view.loc (c : Thread nD τ)) ↦[zB.view.set]{qL} (sums P c) : sProp 𝕄) = ((zLoc c) ↦{qL} (sums P c)) := by
    rw [View.set_whole]
  have hp : iprop(((oO c).view.loc (c : Thread nD τ) ↦[(oO c).view.set]{fullShare} ((oO c).view.write (Elt F) fd (zB.view.read (Elt F) (sums P c)) Finset.univ))
      ∗ ((zB.view.loc (c : Thread nD τ)) ↦[zB.view.set]{qL} (sums P c))) ⊢ ((Rd P).payload (lc c) 0 0 : sProp 𝕄) := by
    rw [payload_l, hz, land_own]; unfold payL; exact BI.Entails.refl _
  iapply (Rounds.wp_copy_pointsTo 𝒱₀ ER (Rd P) (c : Thread nD τ) none (src := zB) (dst := oO c) (sem := .dma smL) (q := qL)
      (fs := sums P c) (fd := fd) (r := 0) (d := 0) (κ := K (lc c)) h1 () NL (am_own _) (amount_l P c 0) hp) $$ [Hz Ho Ht]
  · isplitr; · iapply (ctx_l P K c); iexact HC
    isplitl [Hz]; · rw [hz]; iexact Hz
    isplitl [Ho]; · iexact Ho
    isplitl [Ht]; · iexact Ht
    iexact Hr
  iintro Hc
  rw [wp_ret]; imodintro
  iapply Hk; iexact Hc

theorem ownWait_run (c : Dev nD) (Q : PUnit → sProp 𝕄) :
    iprop(Ctx P K ∗ cred (tallyAt (lc c) () NL) ∗ atPos ER (lc c) 0 ∅ 0 ∗ ow c 0
        ∗ (payL P c ∗ atPos ER (lc c) 1 ∅ 0 ∗ ow c 0 -∗ Q ⟨⟩))
      ⊢ wp frame (wpE (defs₀ (F := F)) 𝒱₀ (c : Thread nD τ) none) Set.univ (ownWait c) Q := by
  have hw : ∀ R : PUnit → sProp 𝕄, wpE (defs₀ (F := F)) 𝒱₀ (c : Thread nD τ) none Set.univ
        (.waitDma2 smL zB (oO c) zW.wordExact (ownX c)) R
      = waitSpec (c : Thread nD τ) Set.univ (.dma smL) NL R := fun R => by
    rw [wpE_waitDma2_eq 𝒱₀ (c : Thread nD τ) none Set.univ R, am_own]
  unfold ow ownWait
  simp only [Prog.lift]
  iintro ⟨#HC, Hc, Ha, ⟨%W, HO⟩, Hk⟩
  iapply (Rounds.wp_wait_rest_token 𝒱₀ ER (Rd P) (c : Thread nD τ) none (κ := K (lc c)) hw (Set.mem_univ _) () (O := 0) (W := W)
      (R := 0) (m := 0) (T := ∅) ((Nat.zero_add _).trans (expect_l P c).symm)) $$ [Hc Ha HO]
  · isplitr; · iapply (ctx_l P K c); iexact HC
    isplitl [Hc]; · iexact Hc
    isplitl [HO]; · iexact HO
    isplitr; · rw [MayWait_zero]; iempintro
    iexact Ha
  iintro ⟨HO, Ha, -, Hp⟩
  ihave Hp' := (Entails.of_eq (rest_l P c)) $$ Hp
  rw [wp_ret]; imodintro
  iapply Hk
  isplitl [Hp']; · iexact Hp'
  isplitl [Ha]; · iexact Ha
  iexists _; iexact HO

/-! ## The handshake -/

theorem handshake_run (c : Dev nD) (Q : PUnit → sProp 𝕄) :
    iprop(Ctx P K ∗ dutyTok ER (bc (zn c)) 0 0 ∗ dutyTok ER (bc (xn c)) 0 1 ∗ dutyTok ER (bc (yn c)) 0 2
        ∗ (bigSep Finset.univ fun i => grantZ c i) ∗ (bigSep Finset.univ fun i => grantX (xn c) c i)
        ∗ (bigSep Finset.univ fun i => grantY (yn c) c i)
        ∗ cred (tallyAt (bc c) () 3) ∗ atPos ER (bc c) 0 ∅ 0 ∗ ow c (O₀ c)
        ∗ ((bigSep Finset.univ fun i => grantZ (zn c) i) ∗ (bigSep Finset.univ fun i => grantX c (xn c) i)
          ∗ (bigSep Finset.univ fun i => grantY c (yn c) i) ∗ atPos ER (bc c) 1 ∅ 0 ∗ ow c (owedFrom c 0 0 0) -∗ Q ⟨⟩))
      ⊢ wp frame (wpE (defs₀ (F := F)) 𝒱₀ (c : Thread nD τ) none) Set.univ (handshake c) Q := by
  have hd (d : Dev nD) (a : Fin 3) : a ∈ (Rd P).duties (bc d) 0 := by rw [duties_b]; exact Finset.mem_univ _
  have p0 : (bigSep Finset.univ fun i => grantZ c i : sProp 𝕄) ⊢ (Rd P).payload (bc (zn c)) 0 0 := by
    rw [payload_b]; unfold payB; dsimp only; rw [zn_zn]
  have p1 : (bigSep Finset.univ fun i => grantX (xn c) c i : sProp 𝕄) ⊢ (Rd P).payload (bc (xn c)) 0 1 := by
    rw [payload_b]; unfold payB; dsimp only; rw [xn_xn]
  have p2 : (bigSep Finset.univ fun i => grantY (yn c) c i : sProp 𝕄) ⊢ (Rd P).payload (bc (yn c)) 0 2 := by
    rw [payload_b]; unfold payB; dsimp only; rw [yn_yn]
  have hO0 : O₀ c = owedFrom c 0 0 0 + tallyAt (bc (yn c)) () 1 + tallyAt (bc (xn c)) () 1 + tallyAt (bc (zn c)) () 1 := rfl
  have one : (1#32 : BitVec 32).toInt = ((1 : ℕ) : ℤ) := by decide
  have three : (3#32 : BitVec 32).toInt = ((3 : ℕ) : ℤ) := by decide
  unfold handshake semSignalWord semWaitWord ow
  simp only [Prog.bind_op, Prog.bind_ret]
  rw [one, three]
  iintro ⟨#HC, T0, T1, T2, G0, G1, G2, Hc, Ha, ⟨%W, HO⟩, Hk⟩
  iapply (Rounds.wp_signal 𝒱₀ ER (Rd P) (c : Thread nD τ) none (dst := (zn c : Thread nD τ)) (sem := bar) (r := 0) (d := 0) (κ := K (bc (zn c)))
      (hd (zn c) 0) (amount_b P (zn c) 0) () (owedFrom c 0 0 0 + tallyAt (bc (yn c)) () 1 + tallyAt (bc (xn c)) () 1) hO0) $$ [HO T0 G0]
  · isplitr; · iapply (ctx_b P K (zn c)); iexact HC
    isplitl [HO]; · iexact HO
    isplitl [T0]; · iexact T0
    isplitl [G0]; · iapply p0; iexact G0
    iapply (ctx_r P K (zn c)); iexact HC
  iintro HO
  iapply (Rounds.wp_signal 𝒱₀ ER (Rd P) (c : Thread nD τ) none (dst := (xn c : Thread nD τ)) (sem := bar) (r := 0) (d := 1) (κ := K (bc (xn c)))
      (hd (xn c) 1) (amount_b P (xn c) 1) () (owedFrom c 0 0 0 + tallyAt (bc (yn c)) () 1) rfl) $$ [HO T1 G1]
  · isplitr; · iapply (ctx_b P K (xn c)); iexact HC
    isplitl [HO]; · iexact HO
    isplitl [T1]; · iexact T1
    isplitl [G1]; · iapply p1; iexact G1
    iapply (ctx_r P K (xn c)); iexact HC
  iintro HO
  iapply (Rounds.wp_signal 𝒱₀ ER (Rd P) (c : Thread nD τ) none (dst := (yn c : Thread nD τ)) (sem := bar) (r := 0) (d := 2) (κ := K (bc (yn c)))
      (hd (yn c) 2) (amount_b P (yn c) 2) () (owedFrom c 0 0 0) rfl) $$ [HO T2 G2]
  · isplitr; · iapply (ctx_b P K (yn c)); iexact HC
    isplitl [HO]; · iexact HO
    isplitl [T2]; · iexact T2
    isplitl [G2]; · iapply p2; iexact G2
    iapply (ctx_r P K (yn c)); iexact HC
  iintro HO
  iapply (Rounds.wp_wait_rest_token 𝒱₀ ER (Rd P) (c : Thread nD τ) none (κ := K (bc c))
      (wpE_semWait_eq 𝒱₀ (c : Thread nD τ) none Set.univ) (Set.mem_univ _) () (O := owedFrom c 0 0 0) (W := W) (R := 0) (m := 0) (T := ∅)
      ((Nat.zero_add 3).trans (expect_b P c).symm)) $$ [Hc HO Ha]
  · isplitr; · iapply (ctx_b P K c); iexact HC
    isplitl [Hc]; · iexact Hc
    isplitl [HO]; · iexact HO
    isplitr
    · iapply (mayWait 1 c (.reg bar) (Nat.le_refl 1) (owedFrom_above c 0 0 0)); iapply (ctx_lev P K); iexact HC
    iexact Ha
  iintro ⟨HO, Ha, -, Hp⟩
  ihave Hp' := (Entails.of_eq (rest_b P c)) $$ Hp
  unfold payB; dsimp only
  icases Hp' with ⟨G0, G1, G2⟩
  rw [wp_ret]; imodintro
  iapply Hk
  isplitl [G0]; · iexact G0
  isplitl [G1]; · iexact G1
  isplitl [G2]; · iexact G2
  isplitl [Ha]; · iexact Ha
  iexists _; iexact HO

end Cert.AR

end
-- ==== Proof.Talk.lean ====
/- The kernel's run on one device: from its counters at zero and the buffers it may write, to the gathered sums. -/
module

public import proofs.«01_k».proof.Proof.Loops

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ UU ℕ

variable (P : Dev nD → Vec F S1024x4096 .bf16) (K : GSem nD τ sig → ℕ)

/-! ## Families over a finite type -/

theorem bigSep_ten {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide, bigSep_insert (by decide), bigSep_insert (by decide),
    bigSep_insert (by decide), bigSep_insert (by decide), bigSep_insert (by decide), bigSep_insert (by decide), bigSep_insert (by decide),
    bigSep_insert (by decide), bigSep_insert (by decide), bigSep_singleton]
  rfl

theorem each {M I : Type} [URA M] [Fintype I] {Φ Ψ : I → sProp M} (h : ∀ i, Φ i ⊢ Ψ i) : bigSep Finset.univ Φ ⊢ bigSep Finset.univ Ψ :=
  bigSep_mono fun i _ => h i

theorem each_fupd {I : Type} [DecidableEq I] [Fintype I] (R : sProp 𝕄) [BI.Persistent R] {Φ Ψ : I → sProp 𝕄}
    (h : ∀ i, iprop(R ∗ Φ i) ⊢ (|={Set.univ}=> Ψ i : sProp 𝕄)) :
    iprop(R ∗ bigSep Finset.univ Φ) ⊢ (|={Set.univ}=> bigSep Finset.univ Ψ : sProp 𝕄) :=
  (bigSep_with_persistent (R := R) (Φ := Φ) fun i _ => h i).trans (bigSep_fupd _ _)

/-! ## A chunk's share of everything -/

/-- The positions of the ten cells that chunk `i` has on device `c`, in round `r`. -/
def ats (c : Dev nD) (r : ℕ) (i : Fin 8) : sProp 𝕄 := bigSep Finset.univ fun k : Fin 10 => atPos ER (dc c k i) r ∅ 0
def rch (c : Dev nD) (i : Fin 8) : sProp 𝕄 := bigSep Finset.univ fun k : Fin 10 => reached ER (dc c k i) 0
instance rch_persistent (c : Dev nD) (i : Fin 8) : BI.Persistent (rch (F := F) c i) := by unfold rch; infer_instance
/-- The duties that device `c` pays for its chunk `i`. -/
def tks (c : Dev nD) (i : Fin 8) : sProp 𝕄 :=
  iprop(dutyTok ER (dc c 0 i) 0 0 ∗ dutyTok ER (dc (zn c) 1 i) 0 0 ∗ dutyTok ER (dc c 2 i) 0 0 ∗ dutyTok ER (dc (xn c) 3 i) 0 0
    ∗ dutyTok ER (dc c 4 i) 0 0 ∗ dutyTok ER (dc (yn c) 5 i) 0 0 ∗ dutyTok ER (dc c 6 i) 0 0 ∗ dutyTok ER (dc (xn c) 7 i) 0 0
    ∗ dutyTok ER (dc c 8 i) 0 0 ∗ dutyTok ER (dc (yn c) 9 i) 0 0)
/-- The credits for what arrives. -/
def crs (c : Dev nD) (i : Fin 8) : sProp 𝕄 := iprop(crd c 1 i ∗ crd c 3 i ∗ crd c 5 i ∗ crd c 7 i ∗ crd c 9 i)

def kit (c : Dev nD) (i : Fin 8) : sProp 𝕄 :=
  iprop((ats c 0 i ∗ rch c i ∗ tks c i ∗ crs c i) ∗ ((pLoc c) ↦[(pC i).view.set]{fullShare} (P c)))
def lent (c : Dev nD) (i : Fin 8) : sProp 𝕄 :=
  iprop(zAny c i ∗ oAny c (oM (xn c) i).view.set ∗ oAny c (oR (xn c) i).view.set ∗ oAny c (oM (yn c) i).view.set ∗ oAny c (oL (yn c) i).view.set)
def given (c : Dev nD) (i : Fin 8) : sProp 𝕄 := iprop(grantZ c i ∗ grantX (xn c) c i ∗ grantY (yn c) c i)
def taken (c : Dev nD) (i : Fin 8) : sProp 𝕄 := iprop(grantZ (zn c) i ∗ grantX c (xn c) i ∗ grantY c (yn c) i)
def later (c : Dev nD) (i : Fin 8) : sProp 𝕄 :=
  iprop(atPos ER (dc c 0 i) 0 ∅ 0 ∗ atPos ER (dc c 2 i) 0 ∅ 0 ∗ atPos ER (dc c 4 i) 0 ∅ 0 ∗ atPos ER (dc c 8 i) 0 ∅ 0 ∗ atPos ER (dc c 6 i) 0 ∅ 0
    ∗ armed c 9 i ∗ armed c 7 i)
/-- What the loops leave of chunk `i` besides what the last waits take. -/
def kept (c : Dev nD) (i : Fin 8) : sProp 𝕄 :=
  iprop(atPos ER (dc c 1 i) 1 ∅ 0 ∗ atPos ER (dc c 3 i) 1 ∅ 0 ∗ atPos ER (dc c 5 i) 1 ∅ 0
    ∗ ((pLoc c) ↦[(pC i).view.set]{qR} (P c))
    ∗ ((oLoc c) ↦[(oM (xn c) i).view.set \ (oL c i).view.set]{fullShare} (res P c))
    ∗ ((oLoc c) ↦[(oM (yn c) i).view.set \ (oR c i).view.set]{fullShare} (res P c)))
/-- Chunk `i` at the end, but for the share of the sums that the local copy returns. -/
def done (c : Dev nD) (i : Fin 8) : sProp 𝕄 :=
  iprop(ats c 1 i ∗ ((pLoc c) ↦[(pC i).view.set]{fullShare} (P c)) ∗ ((zLoc c) ↦[(zC i).view.set]{qR} (sums P c))
    ∗ ((oLoc c) ↦[(oM (xn c) i).view.set]{fullShare} (res P c)) ∗ ((oLoc c) ↦[(oR (xn c) i).view.set]{fullShare} (res P c))
    ∗ ((oLoc c) ↦[(oM (yn c) i).view.set]{fullShare} (res P c)) ∗ ((oLoc c) ↦[(oL (yn c) i).view.set]{fullShare} (res P c)))

theorem give (c : Dev nD) (i : Fin 8) : iprop(kit P c i ∗ lent c i) ⊢ iprop(kit P c i ∗ given c i) := by
  unfold kit lent given grantZ grantX grantY
  rw [show (rch (F := F) c i) = _ from bigSep_ten _]
  iintro ⟨⟨⟨Ha, ⟨#R0, #R1, #R2, #R3, #R4, #R5, #R6, #R7, #R8, #R9⟩, Ht, Hc⟩, Hp⟩, Hz, H1, H2, H3, H4⟩
  isplitl [Ha Ht Hc Hp]
  · isplitr [Hp]
    · isplitl [Ha]; · iexact Ha
      isplitr
      · isplitr; · iexact R0
        isplitr; · iexact R1
        isplitr; · iexact R2
        isplitr; · iexact R3
        isplitr; · iexact R4
        isplitr; · iexact R5
        isplitr; · iexact R6
        isplitr; · iexact R7
        isplitr; · iexact R8
        iexact R9
      isplitl [Ht] <;> iassumption
    iexact Hp
  isplitl [Hz]
  · isplitl [Hz]; · iexact Hz
    iexact R1
  isplitl [H1 H2]
  · isplitl [H1]
    · isplitl [H1]; · iexact H1
      iexact R3
    isplitl [H2]; · iexact H2
    iexact R7
  isplitl [H3]
  · isplitl [H3]; · iexact H3
    iexact R5
  isplitl [H4]; · iexact H4
  iexact R9

theorem spread (c : Dev nD) (i : Fin 8) : iprop(kit P c i ∗ taken c i) ⊢ iprop(zA P c i ∗ sA P c i ∗ fA c i ∗ later c i) := by
  unfold kit taken grantX grantY zA sA fA later tks crs tick armed crd
  rw [show (rch (F := F) c i) = _ from bigSep_ten _, show (ats (F := F) c 0 i) = _ from bigSep_ten _,
    share_eq (ℓ := pLoc c) (I := (pC i).view.set) fullShare (P c)]
  iintro ⟨⟨⟨⟨A0, A1, A2, A3, A4, A5, A6, A7, A8, A9⟩, ⟨#R0, #R1, #R2, #R3, #R4, #R5, #R6, #R7, #R8, #R9⟩,
    ⟨T0, T1, T2, T3, T4, T5, T6, T7, T8, T9⟩, C1, C3, C5, C7, C9⟩, HL, HR⟩, Hz, ⟨⟨X3, #S3⟩, X7, #S7⟩, ⟨Y5, #S5⟩, Y9, #S9⟩
  isplitl [HL T0 T1 Hz]
  · isplitl [HL]; · iexact HL
    isplitl [T0 T1]
    · isplitl [T0]; · iexact T0
      isplitr; · iexact R0
      iexact T1
    iexact Hz
  isplitl [C1 A1 HR T2 T3 X3 T4 T5 Y5]
  · isplitl [C1 A1]; · isplitl [C1] <;> iassumption
    isplitl [HR]; · iexact HR
    isplitl [T2 T3 X3]
    · isplitl [T2 T3]
      · isplitl [T2]; · iexact T2
        isplitr; · iexact R2
        iexact T3
      isplitl [X3]; · iexact X3
      iexact S3
    isplitl [T4 T5]
    · isplitl [T4]; · iexact T4
      isplitr; · iexact R4
      iexact T5
    isplitl [Y5]; · iexact Y5
    iexact S5
  isplitl [C3 A3 C5 A5 T8 T9 Y9 T6 T7 X7]
  · isplitl [C3 A3]; · isplitl [C3] <;> iassumption
    isplitl [C5 A5]; · isplitl [C5] <;> iassumption
    isplitl [T8 T9 Y9]
    · isplitl [T8 T9]
      · isplitl [T8]; · iexact T8
        isplitr; · iexact R8
        iexact T9
      isplitl [Y9]; · iexact Y9
      iexact S9
    isplitl [T6 T7]
    · isplitl [T6]; · iexact T6
      isplitr; · iexact R6
      iexact T7
    isplitl [X7]; · iexact X7
    iexact S7
  isplitl [A0]; · iexact A0
  isplitl [A2]; · iexact A2
  isplitl [A4]; · iexact A4
  isplitl [A8]; · iexact A8
  isplitl [A6]; · iexact A6
  isplitl [C9 A9]; · isplitl [C9] <;> iassumption
  isplitl [C7] <;> iassumption

/-- The share of the sums for the local copy, taken out of what the second loop gives. -/
def sC (c : Dev nD) (i : Fin 8) : sProp 𝕄 :=
  iprop(atPos ER (dc c 1 i) 1 ∅ 0 ∗ ((pLoc c) ↦[(pC i).view.set]{qR} (P c)) ∗ crd c 2 i ∗ crd c 4 i)
theorem split_sum (c : Dev nD) (i : Fin 8) : sB P c i ⊢ iprop(((zLoc c) ↦[(zC i).view.set]{qL} (sums P c)) ∗ sC P c i) := by
  unfold sB sC
  iintro ⟨H1, H2, H3, H4, H5⟩
  isplitl [H3]; · iexact H3
  isplitl [H1]; · iexact H1
  isplitl [H2]; · iexact H2
  isplitl [H4] <;> iassumption

theorem collect (c : Dev nD) (i : Fin 8) : iprop(crd c 0 i ∗ sC P c i ∗ fB P c i ∗ later c i) ⊢ iprop(dA c i ∗ kept P c i) := by
  unfold sC fB later dA kept armed crd
  iintro ⟨C0, ⟨A1, HR, C2, C4⟩, ⟨A3, A5, HX, HY, C8, C6⟩, A0, A2, A4, A8, A6, H9, H7⟩
  isplitl [C0 A0 C2 A2 C4 A4 C8 A8 C6 A6 H9 H7]
  · isplitl [C0 A0]; · isplitl [C0] <;> iassumption
    isplitl [C2 A2]; · isplitl [C2] <;> iassumption
    isplitl [C4 A4]; · isplitl [C4] <;> iassumption
    isplitl [C8 A8]; · isplitl [C8] <;> iassumption
    isplitl [C6 A6]; · isplitl [C6] <;> iassumption
    isplitl [H9] <;> iassumption
  isplitl [A1]; · iexact A1
  isplitl [A3]; · iexact A3
  isplitl [A5]; · iexact A5
  isplitl [HR]; · iexact HR
  isplitl [HX] <;> iassumption

theorem pay0 (c : Dev nD) (i : Fin 8) : (pay P c 0 i : sProp 𝕄) = (pLoc c) ↦[(pC i).view.set]{qL} (P c) := rfl
theorem pay2 (c : Dev nD) (i : Fin 8) : (pay P c 2 i : sProp 𝕄) = (zLoc c) ↦[(zC i).view.set]{qX} (sums P c) := rfl
theorem pay4 (c : Dev nD) (i : Fin 8) : (pay P c 4 i : sProp 𝕄) = (zLoc c) ↦[(zC i).view.set]{qY} (sums P c) := rfl
theorem pay6 (c : Dev nD) (i : Fin 8) : (pay P c 6 i : sProp 𝕄) = (oLoc c) ↦[(oR c i).view.set]{fullShare} (res P c) := rfl
theorem pay7 (c : Dev nD) (i : Fin 8) : (pay P c 7 i : sProp 𝕄) = (oLoc c) ↦[(oR (xn c) i).view.set]{fullShare} (res P c) := rfl
theorem pay8 (c : Dev nD) (i : Fin 8) : (pay P c 8 i : sProp 𝕄) = (oLoc c) ↦[(oL c i).view.set]{fullShare} (res P c) := rfl
theorem pay9 (c : Dev nD) (i : Fin 8) : (pay P c 9 i : sProp 𝕄) = (oLoc c) ↦[(oL (yn c) i).view.set]{fullShare} (res P c) := rfl

theorem finish (c : Dev nD) (i : Fin 8) : iprop(dB P c i ∗ kept P c i) ⊢ done P c i := by
  unfold dB kept done fired
  rw [pay0, pay2, pay4, pay6, pay7, pay8, pay9, show (ats (F := F) c 1 i) = _ from bigSep_ten _, share_eq (ℓ := pLoc c) (I := (pC i).view.set) fullShare (P c), share_eq (ℓ := zLoc c) (I := (zC i).view.set) fullShare.right (sums P c),
    sub_eq (ℓ := oLoc c) (f := res P c) (q := fullShare) (oL_sub c i), sub_eq (ℓ := oLoc c) (f := res P c) (q := fullShare) (oR_sub c i)]
  iintro ⟨⟨⟨H0, A0⟩, ⟨H2, A2⟩, ⟨H4, A4⟩, ⟨H8, A8⟩, ⟨H6, A6⟩, ⟨H9, A9⟩, H7, A7⟩, A1, A3, A5, HR, HX, HY⟩
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8] <;> iassumption
  isplitl [H0 HR]; · isplitl [H0] <;> iassumption
  isplitl [H2 H4]; · isplitl [H2] <;> iassumption
  isplitl [H8 HX]; · isplitl [H8] <;> iassumption
  isplitl [H7]; · iexact H7
  isplitl [H6 HY]; · isplitl [H6] <;> iassumption
  iexact H9

/-! ## The whole buffers, chunk by chunk -/

theorem lend (c : Dev nD) (fz : Buf (Elt F) (zLoc c)) (fo : Buf (Elt F) (oLoc c)) :
    iprop(((zLoc c) ↦{fullShare} fz) ∗ ((oLoc c) ↦{fullShare} fo) : sProp 𝕄) ⊢ iprop(oAny c (oO c).view.set ∗ bigSep Finset.univ fun i => lent c i) := by
  rw [z_cut, o_cut]
  unfold lent
  rw [bigSep_sep', bigSep_sep', bigSep_sep', bigSep_sep']
  iintro ⟨Hz, HO, H1, H2, H3, H4⟩
  isplitl [HO]; · unfold oAny; iexists fo; iexact HO
  have hz (i : Fin 8) : ((zLoc c) ↦[(zC i).view.set]{fullShare} fz : sProp 𝕄) ⊢ zAny c i := by
    unfold zAny; iintro H; iexists fz; iexact H
  have ho (S : Finset (Idx (oLoc c))) : ((oLoc c) ↦[S]{fullShare} fo : sProp 𝕄) ⊢ oAny c S := by
    unfold oAny; iintro H; iexists fo; iexact H
  isplitl [Hz]; · iapply (each hz); iexact Hz
  isplitl [H1]; · iapply (each fun i => ho (oM (xn c) i).view.set); iexact H1
  isplitl [H2]; · iapply (each fun i => ho (oR (xn c) i).view.set); iexact H2
  isplitl [H3]; · iapply (each fun i => ho (oM (yn c) i).view.set); iexact H3
  iapply (each fun i => ho (oL (yn c) i).view.set); iexact H4

theorem regain (c : Dev nD) :
    iprop(payL P c ∗ bigSep Finset.univ fun i => done P c i)
      ⊢ iprop((bigSep Finset.univ fun i => ats c 1 i) ∗ ((pLoc c) ↦{fullShare} (P c)) ∗ ((zLoc c) ↦{fullShare} (sums P c)) ∗ ((oLoc c) ↦{fullShare} (res P c))) := by
  unfold payL done
  rw [bigSep_sep', bigSep_sep', bigSep_sep', bigSep_sep', bigSep_sep', bigSep_sep', ← p_cut c fullShare (P c), ← z_cut c qR (sums P c), o_cut c (res P c),
    show ((zLoc c) ↦{fullShare} (sums P c) : sProp 𝕄) = _ from share_eq (ℓ := zLoc c) (I := Finset.univ) fullShare (sums P c)]
  iintro ⟨⟨HO, HL⟩, Ha, Hp, HR, H1, H2, H3, H4⟩
  isplitl [Ha]; · iexact Ha
  isplitl [Hp]; · iexact Hp
  isplitl [HL HR]; · isplitl [HL] <;> iassumption
  isplitl [HO]; · iexact HO
  isplitl [H1]; · iexact H1
  isplitl [H2]; · iexact H2
  isplitl [H3] <;> iassumption

/-! ## Closing the cells -/

theorem close_one (g : GSem nD τ sig) : iprop(cellInv ER (Rd P) (K g) g ∗ atPos ER g 1 ∅ 0) ⊢ (|={Set.univ}=> semVal g 0 : sProp 𝕄) :=
  Rounds.cell_close ER (Rd P) (Set.mem_univ (K g)) id (duties_later P g)
theorem close_dc (c : Dev nD) (i : Fin 8) (k : Fin 10) : iprop(Ctx P K ∗ atPos ER (dc c k i) 1 ∅ 0) ⊢ (|={Set.univ}=> semVal (dc c k i) 0 : sProp 𝕄) := by
  iintro ⟨#HC, Ha⟩
  iapply (close_one P K (dc c k i))
  isplitr; · iapply (ctx_d P K c k i); iexact HC
  iexact Ha
theorem close_all (c : Dev nD) : iprop(Ctx P K ∗ bigSep Finset.univ fun i => ats c 1 i)
    ⊢ (|={Set.univ}=> bigSep Finset.univ fun i : Fin 8 => bigSep Finset.univ fun k : Fin 10 => semVal (dc c k i) 0 : sProp 𝕄) :=
  each_fupd (Ctx P K) fun i => each_fupd (Ctx P K) fun k => close_dc P K c i k

/-! ## The run -/

/-- A device's ghost state at the region's entry, its counters already open. -/
def opened (c : Dev nD) : sProp 𝕄 :=
  iprop((bigSep Finset.univ fun i => iprop(ats c 0 i ∗ rch c i ∗ tks c i ∗ crs c i))
    ∗ (atPos ER (lc c) 0 ∅ 0 ∗ reached ER (lc c) 0 ∗ dutyTok ER (lc c) 0 0)
    ∗ (dutyTok ER (bc (zn c)) 0 0 ∗ dutyTok ER (bc (xn c)) 0 1 ∗ dutyTok ER (bc (yn c)) 0 2)
    ∗ atPos ER (bc c) 0 ∅ 0 ∗ cred (tallyAt (bc c) () 3))

def talkPre (c : Dev nD) : sProp 𝕄 :=
  iprop(opened c ∗ ((pLoc c) ↦{fullShare} (P c))
    ∗ (∃ f : Buf (Elt F) (zLoc c), (zLoc c) ↦{fullShare} f) ∗ (∃ f : Buf (Elt F) (oLoc c), (oLoc c) ↦{fullShare} f) ∗ ow c (O₀ c))
def talkPost (c : Dev nD) : sProp 𝕄 :=
  iprop((semVal (lc c) 0 ∗ bigSep Finset.univ fun i : Fin 8 => bigSep Finset.univ fun k : Fin 10 => semVal (dc c k i) 0)
    ∗ semVal (bc c) 0 ∗ ((pLoc c) ↦{fullShare} (P c)) ∗ ((zLoc c) ↦{fullShare} (sums P c)) ∗ ((oLoc c) ↦{fullShare} (res P c)) ∗ ow c 0)

theorem talkRun (c : Dev nD) (Q : PUnit → sProp 𝕄) :
    iprop(Ctx P K ∗ talkPre P c ∗ (talkPost P c -∗ Q ⟨⟩))
      ⊢ wp frame (wpE (defs₀ (F := F)) 𝒱₀ (c : Thread nD τ) none) Set.univ arProg Q := by
  have hkit : iprop((bigSep Finset.univ fun i => iprop(ats c 0 i ∗ rch c i ∗ tks c i ∗ crs c i)) ∗ ((pLoc c) ↦{fullShare} (P c)))
      ⊢ (bigSep Finset.univ fun i => kit P c i : sProp 𝕄) := by
    rw [p_cut c fullShare, ← bigSep_sep']
    exact BI.Entails.refl _
  have hgive : iprop((bigSep Finset.univ fun i => kit P c i) ∗ (bigSep Finset.univ fun i => lent c i))
      ⊢ (iprop((bigSep Finset.univ fun i => kit P c i) ∗ (bigSep Finset.univ fun i => grantZ c i)
        ∗ (bigSep Finset.univ fun i => grantX (xn c) c i) ∗ (bigSep Finset.univ fun i => grantY (yn c) c i)) : sProp 𝕄) := by
    rw [← bigSep_sep', ← bigSep_sep', ← bigSep_sep', ← bigSep_sep']
    exact each fun i => give P c i
  have hspread : iprop((bigSep Finset.univ fun i => kit P c i) ∗ (bigSep Finset.univ fun i => grantZ (zn c) i)
        ∗ (bigSep Finset.univ fun i => grantX c (xn c) i) ∗ (bigSep Finset.univ fun i => grantY c (yn c) i))
      ⊢ (iprop((bigSep Finset.univ fun i => zA P c i) ∗ (bigSep Finset.univ fun i => sA P c i) ∗ (bigSep Finset.univ fun i => fA c i)
        ∗ (bigSep Finset.univ fun i => later c i)) : sProp 𝕄) := by
    rw [← bigSep_sep', ← bigSep_sep', ← bigSep_sep', ← bigSep_sep', ← bigSep_sep', ← bigSep_sep']
    exact each fun i => spread P c i
  have hsum : (bigSep Finset.univ fun i => sB P c i) ⊢ (iprop(((zLoc c) ↦{qL} (sums P c)) ∗ bigSep Finset.univ fun i => sC P c i) : sProp 𝕄) := by
    rw [z_cut c qL, ← bigSep_sep']
    exact each fun i => split_sum P c i
  have hcollect : iprop((bigSep Finset.univ fun i => crd c 0 i) ∗ (bigSep Finset.univ fun i => sC P c i) ∗ (bigSep Finset.univ fun i => fB P c i)
        ∗ (bigSep Finset.univ fun i => later c i))
      ⊢ (iprop((bigSep Finset.univ fun i => dA c i) ∗ (bigSep Finset.univ fun i => kept P c i)) : sProp 𝕄) := by
    rw [← bigSep_sep', ← bigSep_sep', ← bigSep_sep', ← bigSep_sep']
    exact each fun i => collect P c i
  have hfinish : iprop((bigSep Finset.univ fun i => dB P c i) ∗ (bigSep Finset.univ fun i => kept P c i))
      ⊢ (bigSep Finset.univ fun i => done P c i : sProp 𝕄) := by
    rw [← bigSep_sep']
    exact each fun i => finish P c i
  unfold talkPre opened arProg
  simp only [Prog.lift, Prog.bind_op, Prog.bind_ret, wp_deviceId, wp_bind]
  iintro ⟨#HC, ⟨⟨Hch, ⟨HaL, #HrL, HtL⟩, ⟨T0, T1, T2⟩, HaB, HcB⟩, Hp, ⟨%fz, Hz⟩, ⟨%fo, Ho⟩, HO⟩, Hk⟩
  ihave Hkit := hkit $$ [Hch Hp]
  · isplitl [Hch] <;> iassumption
  ihave Hl := (lend c fz fo) $$ [Hz Ho]
  · isplitl [Hz] <;> iassumption
  icases Hl with ⟨HoO, Hl⟩
  ihave Hg := hgive $$ [Hkit Hl]
  · isplitl [Hkit] <;> iassumption
  icases Hg with ⟨Hkit, G0, G1, G2⟩
  iapply (handshake_run P K c _)
  isplitr; · iexact HC
  isplitl [T0]; · iexact T0
  isplitl [T1]; · iexact T1
  isplitl [T2]; · iexact T2
  isplitl [G0]; · iexact G0
  isplitl [G1]; · iexact G1
  isplitl [G2]; · iexact G2
  isplitl [HcB]; · iexact HcB
  isplitl [HaB]; · iexact HaB
  isplitl [HO]; · iexact HO
  iintro ⟨G0, G1, G2, HaB, HO⟩
  ihave Hs := hspread $$ [Hkit G0 G1 G2]
  · isplitl [Hkit]; · iexact Hkit
    isplitl [G0]; · iexact G0
    isplitl [G1] <;> iassumption
  icases Hs with ⟨HzA, HsA, HfA, Hlt⟩
  iapply (wp_each8 c (Ctx P K) (fun i => zA P c i) (fun i => crd c 0 i) (fun n => ow c (owedFrom c n 0 0)) _ (zStart_run P K c) _)
  isplitr; · iexact HC
  isplitl [HzA]; · iexact HzA
  isplitl [HO]; · iexact HO
  iintro ⟨C0, HO⟩
  iapply (wp_each8 c (Ctx P K) (fun i => sA P c i) (fun i => sB P c i) (fun n => ow c (owedFrom c 8 n 0)) _ (sumStep_run P K c) _)
  isplitr; · iexact HC
  isplitl [HsA]; · iexact HsA
  isplitl [HO]; · iexact HO
  iintro ⟨HsB, HO⟩
  ihave Hs := hsum $$ HsB
  icases Hs with ⟨HzL, HsC⟩
  iapply (ownStart_run P K c _)
  isplitr; · iexact HC
  isplitl [HzL]; · iexact HzL
  isplitl [HoO]; · iexact HoO
  isplitl [HtL]; · iexact HtL
  isplitr; · iexact HrL
  iintro HcL
  iapply (wp_each8 c (Ctx P K) (fun i => fA c i) (fun i => fB P c i) (fun n => ow c (owedFrom c 8 8 n)) _ (fwdStep_run P K c) _)
  isplitr; · iexact HC
  isplitl [HfA]; · iexact HfA
  isplitl [HO]; · iexact HO
  iintro ⟨HfB, HO⟩
  rw [owed_end]
  ihave Hd := hcollect $$ [C0 HsC HfB Hlt]
  · isplitl [C0]; · iexact C0
    isplitl [HsC]; · iexact HsC
    isplitl [HfB] <;> iassumption
  icases Hd with ⟨HdA, Hkp⟩
  iapply (wp_each8 c (Ctx P K) (fun i => dA c i) (fun i => dB P c i) (fun _ => ow c 0) _ (drainStep_run P K c) _)
  isplitr; · iexact HC
  isplitl [HdA]; · iexact HdA
  isplitl [HO]; · iexact HO
  iintro ⟨HdB, HO⟩
  ihave Hdn := hfinish $$ [HdB Hkp]
  · isplitl [HdB] <;> iassumption
  iapply (wp_fupd frame (wpE (defs₀ (F := F)) 𝒱₀ (c : Thread nD τ) none))
  iapply (ownWait_run P K c _)
  isplitr; · iexact HC
  isplitl [HcL]; · iexact HcL
  isplitl [HaL]; · iexact HaL
  isplitl [HO]; · iexact HO
  iintro ⟨HpL, HaL, HO⟩
  ihave Hr := (regain P c) $$ [HpL Hdn]
  · isplitl [HpL] <;> iassumption
  icases Hr with ⟨Hats, Hp, Hz, Ho⟩
  imod (close_all P K c) $$ [Hats] with Hss
  · isplitr; · iexact HC
    iexact Hats
  imod (close_one P K (bc c)) $$ [HaB] with Hb0
  · isplitr; · iapply (ctx_b P K c); iexact HC
    iexact HaB
  imod (close_one P K (lc c)) $$ [HaL] with Hl0
  · isplitr; · iapply (ctx_l P K c); iexact HC
    iexact HaL
  imodintro
  iapply Hk
  unfold talkPost
  isplitl [Hl0 Hss]; · isplitl [Hl0] <;> iassumption
  isplitl [Hb0]; · iexact Hb0
  isplitl [Hp]; · iexact Hp
  isplitl [Hz]; · iexact Hz
  isplitl [Ho]; · iexact Ho
  iexact HO

end Cert.AR

end
-- ==== Proof.Region.lean ====
/- The kernel's region of @main: what its window holds, its body's obligation, and its record. -/
module

public import proofs.«01_k».proof.Proof.Talk
public import proofs.«01_k».proof.Proof.Gen.KernelIdeal.Regions
public import proofs.«01_k».proof.Proof.Gen.KernelIdeal.Points
public import Idealize.ShloMosaic.Lib.Pipeline.RegionTalk

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal

variable {F : FTy → Type} [FloatOps F]

local notation "𝕄" => MT nD τ sig Unit (Elt F) ℕ UU ℕ

variable (m : (ℓ : Loc nD τ sig) → Buf (Elt F) ℓ)

/-! ## The contents around the region -/

/-- The partial products: what the host leaves in the kernel's operand. -/
def part (c : Dev nD) : Vec F S1024x4096 .bf16 := Gen.V1 m c (Proc.devRef .tc main_v17)

/-- Device `c`'s buffers before and after the region. -/
abbrev W1 (c : Dev nD) : Valuation τ sig (Elt F) := Gen.V1 m c
def W2 (c : Dev nD) : Valuation τ sig (Elt F) := Function.update (Gen.V1 m c) (Proc.devRef .tc main_v18) (res (part m) c)

theorem W2_res (c : Dev nD) : W2 m c (Proc.devRef .tc main_v18) = res (part m) c := by unfold W2; exact Function.update_self _ _ _
theorem W2_ne (c : Dev nD) (b : DevRef τ sig) (h : b ≠ Proc.devRef .tc main_v18) : W2 m c b = W1 m c b := by
  unfold W2; exact Function.update_of_ne h _ _

/-! ## The kernel's own semaphores -/

/-- The local copy's, then the eighty of the transfers. -/
def osem : Option (Fin 8 × Fin 10) → SemLoc sig
  | none => .dma smL
  | some x => .dma (sm x.2 x.1)

theorem sm_ne_smL (k : Fin 10) (i : Fin 8) : sm k i ≠ smL := fun h => sm_ne_L k i (by rw [h, smL_eq])
theorem osem_inj : Function.Injective osem := by
  rintro (_ | ⟨i, k⟩) (_ | ⟨i', k'⟩) h
  · rfl
  · exact absurd (SemLoc.dma.inj h).symm (sm_ne_smL _ _)
  · exact absurd (SemLoc.dma.inj h) (sm_ne_smL _ _)
  · obtain ⟨rfl, rfl⟩ := sm_inj (SemLoc.dma.inj h); rfl
theorem dma_scoped : ∀ j : DmaSem sig, (SemLoc.dma j : SemLoc sig).isScoped .tc = true := by decide
theorem stage_sem0 : ∀ (w : Fin 1) (s : Fin (spec0 w).nbuf), ((spec0 w).sem s).val = 0 := by decide
theorem stage_lv : ∀ (w : Fin 1) (s : Fin (spec0 w).nbuf), lvOf (SemLoc.dma ((spec0 w).sem s)) = 0 := by decide
theorem osem_facts : Pipeline.OwnSemFacts spec0 osem where
  isScoped k := by
    rcases k with _ | x
    · exact dma_scoped _
    · exact dma_scoped _
  inj := osem_inj
  disj k w s h := by
    have h0 := stage_sem0 w s
    rcases k with _ | x
    · exact smL_ne_0 (by rw [SemLoc.dma.inj h]; exact h0)
    · exact sm_ne_0 x.2 x.1 (by rw [SemLoc.dma.inj h]; exact h0)

theorem bigSep_option {M I : Type} [URA M] [Fintype I] [DecidableEq I] (Φ : Option I → sProp M) :
    bigSep Finset.univ Φ = iprop(Φ none ∗ bigSep Finset.univ fun i => Φ (some i)) := by
  rw [show (Finset.univ : Finset (Option I)) = insert none (Finset.univ.map Function.Embedding.some) from by
      ext x; cases x <;> simp, bigSep_insert (by simp), bigSep_map]
  rfl

theorem own_eq (c : Dev nD) : (Pipeline.ownSems0 osem c : sProp 𝕄)
    = iprop(semVal (lc c) 0 ∗ bigSep Finset.univ fun i : Fin 8 => bigSep Finset.univ fun k : Fin 10 => semVal (dc c k i) 0) := by
  unfold Pipeline.ownSems0
  rw [bigSep_option, bigSep_univ_prod]
  rfl

/-! ## What rides into the region -/

/-- The rights to open device `c`'s own cells. -/
def rights (c : Dev nD) : sProp 𝕄 :=
  iprop(openTok ER (lc c) ∗ bigSep Finset.univ fun i : Fin 8 => bigSep Finset.univ fun k : Fin 10 => openTok ER (dc c k i))

/-- Device `c`'s part of what the launch deals. -/
def start (c : Dev nD) : sProp 𝕄 :=
  iprop(rights c ∗ (bigSep Finset.univ fun i => tks c i) ∗ dutyTok ER (lc c) 0 0
    ∗ (dutyTok ER (bc (zn c)) 0 0 ∗ dutyTok ER (bc (xn c)) 0 1 ∗ dutyTok ER (bc (yn c)) 0 2) ∗ atPos ER (bc c) 0 ∅ 0)
def credits (c : Dev nD) : sProp 𝕄 := iprop((bigSep Finset.univ fun i => crs c i) ∗ cred (tallyAt (bc c) () 3))

def Tk (c : Dev nD) : sProp 𝕄 := iprop((∃ K, Ctx (part m) K ∗ start c) ∗ credits c)
def Xk (c : Dev nD) : sProp 𝕄 := iprop(∃ K, Ctx (part m) K ∗ opened c)
def Yk (c : Dev nD) : sProp 𝕄 := semVal (bc c) 0

variable (P : Dev nD → Vec F S1024x4096 .bf16) (K : GSem nD τ sig → ℕ)

theorem open_one (g : GSem nD τ sig) : iprop(cellInv ER (Rd P) (K g) g ∗ openTok ER g ∗ semVal g 0)
    ⊢ (|={Set.univ}=> iprop(atPos ER g 0 ∅ 0 ∗ reached ER g 0) : sProp 𝕄) :=
  Rounds.cell_open ER (Rd P) (g := g) (Set.mem_univ (K g))

theorem open_chunk (c : Dev nD) (i : Fin 8) :
    iprop(Ctx P K ∗ bigSep Finset.univ fun k : Fin 10 => iprop(openTok ER (dc c k i) ∗ semVal (dc c k i) 0))
      ⊢ (|={Set.univ}=> iprop(ats c 0 i ∗ rch c i) : sProp 𝕄) := by
  unfold ats rch
  rw [← bigSep_sep']
  refine each_fupd (Ctx P K) fun k => ?_
  iintro ⟨#HC, Ho, Hv⟩
  iapply (open_one P K (dc c k i))
  isplitr; · iapply (ctx_d P K c k i); iexact HC
  isplitl [Ho] <;> iassumption

theorem open_all (c : Dev nD) :
    iprop(Ctx P K ∗ rights c ∗ Pipeline.ownSems0 osem c)
      ⊢ (|={Set.univ}=> iprop((atPos ER (lc c) 0 ∅ 0 ∗ reached ER (lc c) 0) ∗ bigSep Finset.univ fun i : Fin 8 => iprop(ats c 0 i ∗ rch c i)) : sProp 𝕄) := by
  rw [own_eq]; unfold rights
  have hpair : iprop((bigSep Finset.univ fun i : Fin 8 => bigSep Finset.univ fun k : Fin 10 => (openTok ER (dc c k i) : sProp 𝕄))
        ∗ bigSep Finset.univ fun i : Fin 8 => bigSep Finset.univ fun k : Fin 10 => semVal (dc c k i) 0)
      ⊢ bigSep Finset.univ fun i : Fin 8 => bigSep Finset.univ fun k : Fin 10 => iprop(openTok ER (dc c k i) ∗ semVal (dc c k i) 0) := by
    rw [← bigSep_sep']
    exact each fun i => Entails.of_eq (bigSep_sep' _ _ _).symm
  iintro ⟨#HC, ⟨HoL, Ho⟩, ⟨HvL, Hv⟩⟩
  ihave Hov := hpair $$ [Ho Hv]
  · isplitl [Ho] <;> iassumption
  imod (each_fupd (Ctx P K) (open_chunk P K c)) $$ [Hov] with Hat
  · isplitr; · iexact HC
    iexact Hov
  imod (open_one P K (lc c)) $$ [HoL HvL] with HL
  · isplitr; · iapply (ctx_l P K c); iexact HC
    isplitl [HoL] <;> iassumption
  imodintro
  isplitl [HL] <;> iassumption

theorem hopen (c : Dev nD) : iprop(Tk m c ∗ Pipeline.ownSems0 osem c ∗ levAts L lv) ⊢ (|={Set.univ}=> Xk m c : sProp 𝕄) := by
  unfold Tk start credits
  iintro ⟨⟨⟨%K, #HC, ⟨Hr, Ht, HtL, Htb, Hab⟩⟩, ⟨Hc, Hcb⟩⟩, Hs, -⟩
  imod (open_all (part m) K c) $$ [Hr Hs] with ⟨⟨HaL, HrL⟩, Har⟩
  · isplitr; · iexact HC
    isplitl [Hr] <;> iassumption
  imodintro
  unfold Xk
  iexists K
  isplitr; · iexact HC
  unfold opened
  isplitl [Har Ht Hc]
  · have hmerge : iprop((bigSep Finset.univ fun i : Fin 8 => iprop(ats c 0 i ∗ rch c i)) ∗ (bigSep Finset.univ fun i => tks c i) ∗ (bigSep Finset.univ fun i => crs c i))
        ⊢ (bigSep Finset.univ fun i : Fin 8 => iprop(ats c 0 i ∗ rch c i ∗ tks c i ∗ crs c i) : sProp 𝕄) := by
      rw [← bigSep_sep', ← bigSep_sep']
      refine each fun i => ?_
      iintro ⟨⟨H1, H2⟩, H3, H4⟩
      isplitl [H1]; · iexact H1
      isplitl [H2]; · iexact H2
      isplitl [H3] <;> iassumption
    iapply hmerge
    isplitl [Har]; · iexact Har
    isplitl [Ht] <;> iassumption
  isplitl [HaL HrL HtL]
  · isplitl [HaL]; · iexact HaL
    isplitl [HrL] <;> iassumption
  isplitl [Htb]; · iexact Htb
  isplitl [Hab] <;> iassumption

/-! ## The region's data -/

/-- The scratch buffer at contents not chosen, and the generator's register. -/
def slack (c : Dev nD) : sProp 𝕄 := iprop((∃ f : Buf (Elt F) (zLoc c), (zLoc c) ↦{fullShare} f) ∗ ∃ r, prngReg c r)

def before0 (c : Dev nD) : sProp 𝕄 := iprop((Xk m c ∗ (oLoc c) ↦{fullShare} (W1 m c (Proc.devRef .tc main_v18))) ∗ slack c)
def after0 (c : Dev nD) : sProp 𝕄 :=
  iprop((Yk c ∗ (oLoc c) ↦{fullShare} (res (part m) c)) ∗ Pipeline.ownSems0 osem c ∗ slack c)

def dat0 (c : Dev nD) : Dat τ (Elt F) Unit ℕ UU ℕ cfg0 c where
  A w := W1 m c (Proc.devRef .tc (Pipeline.arrRef spec0 w))
  after | 0 => fun _ => part m c | ⟨_ + 1, h⟩ => absurd h (Nat.not_lt.2 (Nat.le_add_left _ _))
  Φ t := if t.val = 0 then before0 m c else after0 m c
  q _ := fullShare
  owed t := if t.val = 0 then O₀ c else 0

def pdats : (p : Fin 1) → (c : Dev nD) → Dat τ (Elt F) Unit ℕ UU ℕ (cfgs p) c := fun _ => dat0 m

theorem found0 (c : Dev nD) (t : Fin cfg0.N) (d) : (dat0 m c).before 0 t d = part m c := by
  unfold Dat.before
  rw [if_pos (Gen.fetch0_0 t)]
  unfold Dat.fetched Dat.blockOf
  dsimp only [dat0]
  funext j
  show W1 m c (Proc.devRef .tc main_v17) _ = W1 m c (Proc.devRef .tc main_v17) j
  refine congrArg _ ?_
  refine funext fun a => Fin.ext ?_
  show 0 * _ + 1 * (j a).val = (j a).val
  rw [Nat.zero_mul, Nat.zero_add, Nat.one_mul]

theorem owed_first (c : Dev nD) : (dat0 m c).owed Gen.t0_0.castSucc = O₀ c := rfl
theorem owed_last (c : Dev nD) : (dat0 m c).owed Gen.t0_0.succ = 0 := rfl

theorem owesAt_intro (c : Dev nD) (t : Fin (cfg0.N + 1)) (O : CellTallies nD τ sig Unit) (h0 : (dat0 m c).owed t = O) :
    (ow c O : sProp 𝕄) ⊢ (dat0 m c).owesAt () t := by
  unfold ow Dat.owesAt Pipeline.owesWithin Dat.bound
  rw [h0]
  iintro ⟨%W, HO⟩; iexists W; isplitr
  · ipureintro; exact fun _ _ => Or.inl trivial
  iexact HO
theorem owesAt_elim (c : Dev nD) (t : Fin (cfg0.N + 1)) (O : CellTallies nD τ sig Unit) (h0 : (dat0 m c).owed t = O) :
    (dat0 m c).owesAt () t ⊢ (ow c O : sProp 𝕄) := by
  unfold ow Dat.owesAt Pipeline.owesWithin
  rw [h0]
  iintro ⟨%W, -, HO⟩; iexists W; iexact HO

theorem stage_eq (c : Dev nD) (t : Fin cfg0.N) (X : Vec F S1024x4096 .bf16) :
    (owns (c : Thread nD τ) ((cfg0.win 0).stage (cfg0.slots t 0)) fullShare X : sProp 𝕄) = ((pLoc c) ↦{fullShare} X) := by
  have h : (cfg0.win 0).stage (cfg0.slots t 0) = Memref.whole cc0_stg0_0 := rfl
  exact owns_whole (c : Thread nD τ) cc0_stg0_0 fullShare X

/-- The kernel's body at the region's one point. -/
theorem body0 (c : Dev nD) : BodyObligation (dat0 m c) (defs₀ (F := F)) 𝒱₀ () Set.univ := fun t => by
  obtain rfl := Gen.fin_N0 t
  rw [Gen.bigSep_W0, Gen.bigSep_W0]
  rw [show (dat0 m c).Φ Gen.t0_0.castSucc = before0 m c from rfl, show (dat0 m c).Φ Gen.t0_0.succ = after0 m c from rfl]
  unfold before0 after0 slack Xk
  iintro ⟨⟨⟨⟨%K, #HC, Hg⟩, Ho⟩, Hz, Hr⟩, HO, ⟨%d, Hp⟩⟩
  ihave HO := (owesAt_elim m c _ (O₀ c) (owed_first m c)) $$ HO
  ihave Hp := (Entails.of_eq ((congrArg (fun X => (owns (c : Thread nD τ) ((cfg0.win 0).stage (cfg0.slots Gen.t0_0 0)) fullShare X : sProp 𝕄))
    (found0 m c Gen.t0_0 d)).trans (stage_eq c Gen.t0_0 _))) $$ Hp
  have hb : (defs₀ (F := F) .tc cfg0.body (cfg0.bodyArgs Gen.t0_0 (cfg0.slots Gen.t0_0)) : Prog (TpuEff nD τ sig (Elt F) Λ₀ .tc) PUnit) = arProg :=
    body_eq _ _ _
  rw [hb]
  iapply (talkRun (part m) K c _)
  isplitr; · iexact HC
  isplitl [Hg Hp Hz Ho HO]
  · unfold talkPre
    isplitl [Hg]; · iexact Hg
    isplitl [Hp]; · iexact Hp
    isplitl [Hz]; · iexact Hz
    isplitl [Ho]; · iexists _; iexact Ho
    iexact HO
  unfold talkPost
  iintro ⟨Hs, Hb, Hp, Hz, Ho, HO⟩
  rw [own_eq]; unfold Yk
  isplitl [Hs Hb Hz Ho Hr]
  · isplitl [Hb Ho]; · isplitl [Hb] <;> iassumption
    isplitl [Hs]; · iexact Hs
    isplitl [Hz]; · iexists _; iexact Hz
    iexact Hr
  isplitl [HO]; · iapply (owesAt_intro m c Gen.t0_0.succ 0 (owed_last m c)); iexact HO
  iapply (Entails.of_eq (stage_eq c Gen.t0_0 (part m c)).symm)
  iexact Hp

/-! ## The record -/

def Hs : Finset (DevRef τ sig) := {Proc.devRef .tc main_v18}
def Sr : Finset (DevRef τ sig) := Pipeline.ucRefs τ sig \ {Proc.devRef .tc main_v17}

theorem uc_mem (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩
theorem Hs_sub : Hs ⊆ Sr := fun b hb => by
  rw [Finset.mem_singleton.mp hb]
  exact Finset.mem_sdiff.mpr ⟨uc_mem main_v18 (by decide), by decide⟩
theorem arr_eq : (Pipeline.arrRefs (τ := τ) spec0) = {Proc.devRef .tc main_v17} := by decide
theorem held_one (c : Dev nD) (r : Ref sig .tc) (W : Valuation τ sig (Elt F)) :
    (StableHlo.held (c.tc : Thread nD τ) {Proc.devRef .tc r} W : sProp 𝕄) = (((c : Thread nD τ).loc r) ↦{fullShare} W (Proc.devRef .tc r)) := by
  unfold StableHlo.held; rw [bigSep_singleton]

theorem kitP : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

theorem cut (c : Dev nD) (t : Fin (cfg0.N + 1)) (g : GSem nD τ sig) (i : Unit) (h : 0 < (dat0 m c).owed t g i) : i ∈ L g ∧ (0 : ℕ) < lv g i := by
  have e : (dat0 m c).owed t = if t.val = 0 then O₀ c else 0 := rfl
  rw [e] at h
  split at h
  · have h' := O₀_above c g i h
    exact ⟨by rw [L, if_pos h'.1]; exact Finset.mem_singleton_self _, h'.2⟩
  · exact absurd h (Nat.lt_irrefl 0)

theorem hin (c : Dev nD) : iprop(Pipeline.scopedRest spec0 c ∗ (∃ r, prngReg c r) ∗ StableHlo.held (c.tc : Thread nD τ) Hs (W1 m c) ∗ Xk m c)
    ⊢ (dat0 m c).Φ 0 := by
  rw [show (dat0 m c).Φ 0 = before0 m c from rfl, Gen.scopedRest0_eq]
  unfold Hs before0 slack
  rw [held_one]
  iintro ⟨Hz, Hr, Ho, HX⟩
  isplitl [Ho HX]
  · isplitl [HX] <;> iassumption
  isplitl [Hz] <;> iassumption

theorem hout (c : Dev nD) : (dat0 m c).Φ (Fin.last cfg0.N)
    ⊢ iprop(Pipeline.scopedRest spec0 c ∗ (∃ r, prngReg c r) ∗ StableHlo.held (c.tc : Thread nD τ) Hs (W2 m c) ∗ Pipeline.ownSems0 osem c ∗ Yk c) := by
  rw [show (dat0 m c).Φ (Fin.last cfg0.N) = after0 m c from rfl, Gen.scopedRest0_eq]
  unfold Hs after0 slack
  rw [held_one, W2_res]
  iintro ⟨⟨HY, Ho⟩, Hs, Hz, Hr⟩
  isplitl [Hz]; · iexact Hz
  isplitl [Hr]; · iexact Hr
  isplitl [Ho]; · iexact Ho
  isplitl [Hs] <;> iassumption

theorem arr_ne : ∀ w : Fin 1, (Proc.devRef .tc (Pipeline.arrRef spec0 w) : DevRef τ sig) ≠ Proc.devRef .tc main_v18 := by decide
theorem arr_in (c : Dev nD) (w : Fin cfg0.W) (n : ℕ) : (dat0 m c).arrAt w n = W1 m c (Proc.devRef .tc (Pipeline.arrRef spec0 w)) := by
  rw [(dat0 m c).arrAt_in w (by revert w; decide) n]
  rfl

set_option backward.isDefEq.respectTransparency.types false in
def reg0 : Pipeline.RegionSeg (pcfgs (F := F)) Gen.adm (pdats m) () (defs₀ (F := F)) 𝒱₀ L lv 0 :=
  Pipeline.RegionSeg.ofTalk (pcfgs (F := F)) Gen.adm (pdats m) () defs₀ 𝒱₀ L lv 0 osem osem_facts
    Hs Sr Hs_sub kitP rfl (fun c => (body0 m c).loose)
    (fun _ => 0) O₀ (fun c => (zero_add _).symm) (fun _ => rfl) (fun _ => rfl) (fun c w => by unfold Dat.share; split <;> rfl)
    (W1 m) (W2 m) (fun c b hb => W2_ne m c b fun h => (Finset.mem_sdiff.mp hb).2 (Finset.mem_singleton.mpr h))
    (Tk m) Yk (Xk m) Yk (hopen m) (hin m) (hout m)
    (fun c => by iintro H; imodintro; iexact H)
    (fun _ => 0)
    ⟨fun c w s => by rw [L_tc]; exact Finset.mem_singleton_self _, fun c w s => (stage_lv w s).le, fun c t g i h => cut m c t g i h⟩
    (fun _ => iprop(emp))
    (fun c w => arr_in m c w 0)
    (fun c w => (arr_in m c w _).trans (W2_ne m c _ (arr_ne w)).symm)

end Cert.AR

end
-- ==== Proof.Dues.lean ====
/- The launch credit: what the devices owe a cell together is what its owner waits for. -/
module

public import proofs.«01_k».proof.Proof.Region

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ UU ℕ

/-! ## The neighbours as permutations -/

def zE : Dev nD ≃ Dev nD := ⟨zn, zn, zn_zn, zn_zn⟩
def xE : Dev nD ≃ Dev nD := ⟨xn, xn, xn_xn, xn_xn⟩
def yE : Dev nD ≃ Dev nD := ⟨yn, yn, yn_yn, yn_yn⟩

/-- Over all devices, the one whose neighbour is `c` contributes. -/
theorem sum_at (e : Dev nD ≃ Dev nD) (c : Dev nD) (p : Prop) [Decidable p] (n : ℕ) :
    (∑ d : Dev nD, if e d = c ∧ p then n else 0) = if p then n else 0 := by
  by_cases hp : p
  · simp only [hp, and_true, if_true]
    rw [Equiv.sum_comp e (fun d => if d = c then n else 0), Finset.sum_ite_eq' Finset.univ c fun _ => n, if_pos (Finset.mem_univ _)]
  · simp only [hp, and_false, if_false, Finset.sum_const_zero]

/-! ## What one device owes a cell -/

theorem dc_eq {c e : Dev nD} {k k' : Fin 10} {i j : Fin 8} (h : dc c k i = dc e k' j) : c = e ∧ k = k' ∧ i = j :=
  ⟨Fin.ext (congrArg (fun g : GSem nD τ sig => g.1.1.val) h), sm_inj (SemLoc.dma.inj (congrArg Prod.snd h))⟩
theorem bc_eq {c e : Dev nD} (h : bc c = bc e) : c = e := Fin.ext (congrArg (fun g : GSem nD τ sig => g.1.1.val) h)
theorem bc_ne (c e : Dev nD) (k : Fin 10) (i : Fin 8) : bc c ≠ dc e k i := fun h => nomatch (congrArg Prod.snd h : SemLoc.reg bar = SemLoc.dma (sm k i))

theorem due_at (e c : Dev nD) (k k' : Fin 10) (i : Fin 8) (n : ℕ) :
    due 0 (dc e k') n (dc c k i) () = if e = c ∧ k' = k then n else 0 := by
  rw [due_all, Finset.sum_apply, Finsupp.finset_sum_apply,
    Finset.sum_congr rfl (g := fun j => if j = i then (if e = c ∧ k' = k then n else 0) else 0) fun j _ => ?_,
    Finset.sum_ite_eq' Finset.univ i, if_pos (Finset.mem_univ _)]
  rw [tallyAt_apply]
  by_cases h : dc c k i = dc e k' j
  · obtain ⟨rfl, rfl, rfl⟩ := dc_eq h
    rw [if_pos ⟨rfl, rfl⟩, if_pos rfl, if_pos ⟨rfl, rfl⟩]
  · rw [if_neg fun h' => h h'.1]
    by_cases hj : j = i
    · subst hj; rw [if_pos rfl, if_neg]; rintro ⟨rfl, rfl⟩; exact h rfl
    · rw [if_neg hj]
theorem due_bar (e c : Dev nD) (k' : Fin 10) (n : ℕ) : due 0 (dc e k') n (bc c) () = 0 := by
  rw [due_all, Finset.sum_apply, Finsupp.finset_sum_apply]
  refine Finset.sum_eq_zero fun j _ => ?_
  rw [tallyAt_apply, if_neg fun h => bc_ne _ _ _ _ h.1]
theorem unit_bar (e c : Dev nD) : (tallyAt (bc e) () 1 : CellTallies nD τ sig Unit) (bc c) () = if e = c ∧ True then 1 else 0 := by
  rw [tallyAt_apply]
  by_cases h : e = c
  · subst h; rw [if_pos ⟨rfl, rfl⟩, if_pos ⟨rfl, trivial⟩]
  · rw [if_neg fun h' => h (bc_eq h'.1).symm, if_neg fun h' => h h'.1]
theorem unit_at (e c : Dev nD) (k : Fin 10) (i : Fin 8) : (tallyAt (bc e) () 1 : CellTallies nD τ sig Unit) (dc c k i) () = 0 := by
  rw [tallyAt_apply, if_neg fun h => bc_ne _ _ _ _ h.1.symm]

theorem owed_at (d c : Dev nD) (k : Fin 10) (i : Fin 8) : O₀ d (dc c k i) () =
    (if zE d = c ∧ 1 = k then N else 0) + ((if xE d = c ∧ 3 = k then N else 0) + ((if yE d = c ∧ 5 = k then N else 0)
      + ((if yE d = c ∧ 9 = k then Nh else 0) + (if xE d = c ∧ 7 = k then Nh else 0)))) := by
  unfold O₀ owedFrom
  simp only [Pi.add_apply, Finsupp.add_apply, due_at, unit_at, Nat.add_zero]
  rfl
theorem owed_bar (d c : Dev nD) : O₀ d (bc c) () =
    (if yE d = c ∧ True then 1 else 0) + (if xE d = c ∧ True then 1 else 0) + (if zE d = c ∧ True then 1 else 0) := by
  unfold O₀ owedFrom
  simp only [Pi.add_apply, Finsupp.add_apply, due_bar, unit_bar, Nat.zero_add]
  rfl

/-! ## The launch credit of a cell -/

theorem credit_bar (c : Dev nD) :
    tallyOn (bc c) (launchCredit (Pipeline.owing O₀) 0 (bc c)) = (tallyAt (bc c) () 3 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, sum_at, if_true]

theorem credit_at (c : Dev nD) (k : Fin 10) (i : Fin 8) (hk : k.val % 2 = 1) :
    tallyOn (dc c k i) (launchCredit (Pipeline.owing O₀) 0 (dc c k i)) = (tallyAt (dc c k i) () (amt k) : CellTallies nD τ sig Unit) := by
  unfold tallyAt; refine congrArg _ (Finsupp.ext fun u => ?_); cases u
  rw [Pipeline.launchCredit_owing, Finsupp.single_eq_same, Finset.sum_congr rfl fun d _ => owed_at d c k i]
  simp only [Finset.sum_add_distrib, sum_at]
  have h : k = 1 ∨ k = 3 ∨ k = 5 ∨ k = 7 ∨ k = 9 := by revert k; decide
  rcases h with rfl | rfl | rfl | rfl | rfl <;> simp [amt]

theorem creds (c : Dev nD) : (Pipeline.launchCred O₀ c : sProp 𝕄) ⊢ credits c := by
  unfold Pipeline.launchCred credits
  rw [bigSep_univ_at _ (SemLoc.reg bar), credit_bar]
  have hsub : Finset.univ.map (⟨osem, osem_inj⟩ : Option (Fin 8 × Fin 10) ↪ SemLoc sig) ⊆ Finset.univ.erase (SemLoc.reg bar) := fun s hs => by
    obtain ⟨o, -, rfl⟩ := Finset.mem_map.mp hs
    refine Finset.mem_erase.mpr ⟨?_, Finset.mem_univ _⟩
    rcases o with _ | x
    · exact fun h => nomatch (h : SemLoc.dma smL = SemLoc.reg bar)
    · exact fun h => nomatch (h : SemLoc.dma (sm x.2 x.1) = SemLoc.reg bar)
  have hrest : (bigSep (Finset.univ.erase (SemLoc.reg bar)) fun s : SemLoc sig =>
        (cred (tallyOn ((c.tc : Thread nD τ), s) (launchCredit (Pipeline.owing O₀) 0 ((c.tc : Thread nD τ), s))) : sProp 𝕄))
      ⊢ bigSep Finset.univ fun i => crs c i := by
    refine (bigSep_subset hsub).trans ?_
    rw [bigSep_map, bigSep_option, bigSep_univ_prod]
    refine sep_elim_right.trans (each fun i => ?_)
    unfold crs crd
    rw [bigSep_ten, ← credit_at c 1 i rfl, ← credit_at c 3 i rfl, ← credit_at c 5 i rfl, ← credit_at c 7 i rfl, ← credit_at c 9 i rfl]
    iintro ⟨-, H1, -, H3, -, H5, -, H7, -, H9⟩
    isplitl [H1]; · iexact H1
    isplitl [H3]; · iexact H3
    isplitl [H5]; · iexact H5
    isplitl [H7]; · iexact H7
    iexact H9
  iintro ⟨Hb, Hr⟩
  isplitl [Hr]; · iapply hrest; iexact Hr
  iexact Hb

end Cert.AR

end
-- ==== Proof.Run.lean ====
/- The launch, and the run of @main on the eight devices. -/
module

public import proofs.«01_k».proof.Proof.Dues
public import Idealize.ShloMosaic.Lib.Quiescent

@[expose] public section

noncomputable section

namespace Cert.AR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duties' tokens -/

theorem dev_of {c d : Dev nD} {s s' : SemLoc sig} (h : (((c : Thread nD τ), s) : GSem nD τ sig) = ((d : Thread nD τ), s')) : c = d :=
  Fin.ext (congrArg (fun g : GSem nD τ sig => g.1.1.val) h)

def barEmb : Dev nD ↪ GSem nD τ sig := ⟨fun c => bc c, fun _ _ h => dev_of h⟩
def ownEmb : Dev nD × Option (Fin 8 × Fin 10) ↪ GSem nD τ sig :=
  ⟨fun x => ((x.1 : Thread nD τ), osem x.2), fun _ _ h => Prod.ext (dev_of h) (osem_inj (congrArg Prod.snd h))⟩
abbrev barCells : Finset (GSem nD τ sig) := Finset.univ.map barEmb
abbrev ownCells : Finset (GSem nD τ sig) := Finset.univ.map ownEmb

theorem osem_ne (o : Option (Fin 8 × Fin 10)) : osem o ≠ .reg bar := by
  rcases o with _ | x
  · exact fun h => nomatch (h : SemLoc.dma smL = SemLoc.reg bar)
  · exact fun h => nomatch (h : SemLoc.dma (sm x.2 x.1) = SemLoc.reg bar)
theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact osem_ne x.2 (congrArg Prod.snd h)

def barTokEmb : Dev nD × Fin 3 ↪ GSem nD τ sig × ℕ × Fin 3 :=
  ⟨fun x => (bc x.1, 0, x.2), fun _ _ h => Prod.ext (dev_of (congrArg Prod.fst h)) (congrArg (fun t : GSem nD τ sig × ℕ × Fin 3 => t.2.2) h)⟩
def ownTokEmb : Dev nD × Option (Fin 8 × Fin 10) ↪ GSem nD τ sig × ℕ × Fin 3 :=
  ⟨fun x => (((x.1 : Thread nD τ), osem x.2), 0, 0), fun _ _ h => ownEmb.injective (congrArg Prod.fst h)⟩
def toks : Finset (GSem nD τ sig × ℕ × Fin 3) := Finset.univ.map barTokEmb ∪ Finset.univ.map ownTokEmb
theorem disjoint_toks : Disjoint (Finset.univ.map barTokEmb) (Finset.univ.map ownTokEmb) := by
  rw [Finset.disjoint_left]
  rintro g h₁ h₂
  obtain ⟨c, -, rfl⟩ := Finset.mem_map.mp h₁
  obtain ⟨x, -, h⟩ := Finset.mem_map.mp h₂
  exact osem_ne x.2 (congrArg (fun t : GSem nD τ sig × ℕ × Fin 3 => t.1.2) h)

theorem both {I : Type} [DecidableEq I] {s t : Finset I} (h : Disjoint s t) {Φ : I → sProp 𝕄} :
    bigSep (s ∪ t) Φ = iprop(bigSep s Φ ∗ bigSep t Φ) := bigSep_union h

/-- The tokens by device, each with the device that pays the duty. -/
theorem toks_deal : bigSep toks (fun x => (dutyTok ER x.1 x.2.1 x.2.2 : sProp 𝕄))
    ⊢ iprop((bigSep Finset.univ fun c : Dev nD => bigSep Finset.univ fun i => tks c i) ∗ (bigSep Finset.univ fun c : Dev nD => dutyTok ER (lc c) 0 0)
      ∗ (bigSep Finset.univ fun c : Dev nD => dutyTok ER (bc (zn c)) 0 0) ∗ (bigSep Finset.univ fun c : Dev nD => dutyTok ER (bc (xn c)) 0 1)
      ∗ bigSep Finset.univ fun c : Dev nD => dutyTok ER (bc (yn c)) 0 2) := by
  have hb : bigSep (Finset.univ.map barTokEmb) (fun x => (dutyTok ER x.1 x.2.1 x.2.2 : sProp 𝕄))
      = iprop((bigSep Finset.univ fun c : Dev nD => dutyTok ER (bc (zn c)) 0 0) ∗ (bigSep Finset.univ fun c : Dev nD => dutyTok ER (bc (xn c)) 0 1)
        ∗ bigSep Finset.univ fun c : Dev nD => dutyTok ER (bc (yn c)) 0 2) := by
    rw [bigSep_map, bigSep_univ_prod]
    simp only [bigSep_three, bigSep_sep']
    rw [bigSep_univ_equiv zE (fun c : Dev nD => (dutyTok ER (barTokEmb (c, 0)).1 (barTokEmb (c, 0)).2.1 (barTokEmb (c, 0)).2.2 : sProp 𝕄)),
      bigSep_univ_equiv xE (fun c : Dev nD => (dutyTok ER (barTokEmb (c, 1)).1 (barTokEmb (c, 1)).2.1 (barTokEmb (c, 1)).2.2 : sProp 𝕄)),
      bigSep_univ_equiv yE (fun c : Dev nD => (dutyTok ER (barTokEmb (c, 2)).1 (barTokEmb (c, 2)).2.1 (barTokEmb (c, 2)).2.2 : sProp 𝕄))]
    rfl
  have ho : bigSep (Finset.univ.map ownTokEmb) (fun x => (dutyTok ER x.1 x.2.1 x.2.2 : sProp 𝕄))
      = iprop((bigSep Finset.univ fun c : Dev nD => dutyTok ER (lc c) 0 0)
        ∗ bigSep Finset.univ fun c : Dev nD => bigSep Finset.univ fun i : Fin 8 => bigSep Finset.univ fun k : Fin 10 => dutyTok ER (dc c k i) 0 0) := by
    rw [bigSep_map, bigSep_univ_prod, ← bigSep_sep']
    exact bigSep_congr fun c _ => by rw [bigSep_option, bigSep_univ_prod]; rfl
  have hd : (bigSep Finset.univ fun c : Dev nD => bigSep Finset.univ fun i : Fin 8 => bigSep Finset.univ fun k : Fin 10 => (dutyTok ER (dc c k i) 0 0 : sProp 𝕄))
      = bigSep Finset.univ fun c : Dev nD => bigSep Finset.univ fun i => tks c i := by
    unfold tks
    simp only [bigSep_ten, bigSep_sep']
    rw [bigSep_univ_equiv zE (fun c : Dev nD => bigSep Finset.univ fun i : Fin 8 => (dutyTok ER (dc c 1 i) 0 0 : sProp 𝕄)),
      bigSep_univ_equiv xE (fun c : Dev nD => bigSep Finset.univ fun i : Fin 8 => (dutyTok ER (dc c 3 i) 0 0 : sProp 𝕄)),
      bigSep_univ_equiv yE (fun c : Dev nD => bigSep Finset.univ fun i : Fin 8 => (dutyTok ER (dc c 5 i) 0 0 : sProp 𝕄)),
      bigSep_univ_equiv xE (fun c : Dev nD => bigSep Finset.univ fun i : Fin 8 => (dutyTok ER (dc c 7 i) 0 0 : sProp 𝕄)),
      bigSep_univ_equiv yE (fun c : Dev nD => bigSep Finset.univ fun i : Fin 8 => (dutyTok ER (dc c 9 i) 0 0 : sProp 𝕄))]
    rfl
  unfold toks
  rw [both disjoint_toks, hb, ho, hd]
  iintro ⟨Hb, HL, Ht⟩
  isplitl [Ht]; · iexact Ht
  isplitl [HL]; · iexact HL
  iexact Hb

/-! ## The launch -/

/-- The launch element: the pipeline library's part, and the protocol's. -/
def u₀ : UU :=
  (initOf (Pipeline.cells cfgs Gen.cellOf_inj) (Pipeline.launchToks cfgs Gen.cellOf_inj), launchOf barCells ownCells toks)

/-- All of a resource on device 0. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells ownCells toks)))

theorem sems0_eq (c : Dev nD) : (unscopedSems0 c : sProp 𝕄) = semVal (bc c) 0 := by
  unfold unscopedSems0
  rw [show (Finset.univ.filter fun sm : SemLoc sig => ¬ sm.isScoped .tc) = {SemLoc.reg bar} from by decide, bigSep_singleton]
theorem unscoped_eq : ∀ s : SemLoc sig, s.isScoped .tc = false → s = .reg bar := by decide

variable (P : Dev nD → Vec F S1024x4096 .bf16)

/-- The invariants, dealt by device. -/
theorem ctx_intro (K : GSem nD τ sig → ℕ) :
    iprop((bigSep (barCells ∪ ownCells) fun g => cellInv ER (Rd P) (K g) g) ∗ (bigSep barCells fun g => reached ER g 0) ∗ levAts L lv) ⊢ Ctx P K := by
  have hd : (bigSep Finset.univ fun c : Dev nD => bigSep Finset.univ fun o : Option (Fin 8 × Fin 10) =>
        (cellInv ER (Rd P) (K ((c : Thread nD τ), osem o)) ((c : Thread nD τ), osem o) : sProp 𝕄))
      = iprop((bigSep Finset.univ fun c : Dev nD => cellInv ER (Rd P) (K (lc c)) (lc c))
        ∗ bigSep Finset.univ fun x : Dev nD × Fin 10 × Fin 8 => cellInv ER (Rd P) (K (dc x.1 x.2.1 x.2.2)) (dc x.1 x.2.1 x.2.2)) := by
    rw [bigSep_univ_prod, ← bigSep_sep']
    refine bigSep_congr fun c _ => ?_
    rw [bigSep_option, bigSep_univ_equiv (Equiv.prodComm (Fin 10) (Fin 8))]
    rfl
  unfold Ctx
  rw [both disjoint_cells, bigSep_map, bigSep_map, bigSep_map, bigSep_univ_prod]
  iintro ⟨⟨#Hb, #Ho⟩, #Hr, #Hl⟩
  ihave Hx := (Entails.of_eq hd) $$ [Ho]
  · iexact Ho
  icases Hx with ⟨#HL, #HD⟩
  isplitr; · iexact Hb
  isplitr; · iexact HD
  isplitr; · iexact HL
  isplitr; · iexact Hr
  iexact Hl

/-- What rides beside the buffers to the region, and from it. -/
def E0 (c : Dev nD) : sProp 𝕄 := iprop(Tk m c ∗ (∃ r, prngReg c r) ∗ ow c (O₀ c))
def E1 (c : Dev nD) : sProp 𝕄 := iprop(Yk c ∗ ow c 0)
def E : Fin 2 → Dev nD → sProp 𝕄 | 0 => E0 m | 1 => E1

abbrev T₀ (c : Dev nD) : sProp 𝕄 := iprop(StableHlo.held (c : Thread nD τ) (Pipeline.ucRefs τ sig) (Gen.V0 m c) ∗ E0 m c)
abbrev Tₙ (c : Dev nD) : sProp 𝕄 := iprop(StableHlo.held (c : Thread nD τ) (Pipeline.ucRefs τ sig) (W2 m c) ∗ Yk c)

def bundle (c : Dev nD) : sProp 𝕄 :=
  iprop(StableHlo.held (c : Thread nD τ) (Pipeline.ucRefs τ sig) (Gen.V0 m c) ∗ credits c ∗ ow c (O₀ c) ∗ ∃ r, prngReg c r)

theorem T₀_intro (K : GSem nD τ sig → ℕ) (c : Dev nD) : iprop(Ctx (part m) K ∗ (start c ∗ bundle m c)) ⊢ T₀ m c := by
  dsimp only [T₀]
  unfold bundle E0 Tk
  iintro ⟨#HC, Hst, Hh, Hc, HO, Hr⟩
  isplitl [Hh]; · iexact Hh
  isplitl [Hst Hc]
  · isplitl [Hst]
    · iexists K; isplitr; · iexact HC
      iexact Hst
    iexact Hc
  isplitl [Hr] <;> iassumption

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ semVal (bc c) 0 ∗ G c) : sProp 𝕄) := by
    rw [show (unscopedBufs c (fun b => m ((c.tc : Thread nD τ).loc b)) : sProp 𝕄) = StableHlo.held (c : Thread nD τ) (Pipeline.ucRefs τ sig) (Gen.V0 m c) from
      Pipeline.unscopedBufs_held c (Gen.V0 m c), sems0_eq]
    unfold bundle ow
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (bc c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => rights c) :=
    Entails.of_eq (by
      rw [bigSep_map, bigSep_univ_prod]
      exact bigSep_congr fun c _ => by unfold rights; rw [bigSep_option, bigSep_univ_prod]; rfl)
  iintro ⟨H, #Hlev⟩
  ihave H' := (each hcore) $$ H
  ihave H2 := (Entails.of_eq (bigSep_sep' _ _ _)) $$ H'
  icases H2 with ⟨HB, H3⟩
  ihave H4 := (Entails.of_eq (bigSep_sep' _ _ _)) $$ H3
  icases H4 with ⟨Hv, HG⟩
  ihave Hu := (show bigSep Finset.univ (G (F := F)) ⊢ BI.own (ER (launchOf barCells ownCells toks)) from
    Entails.of_eq (bigSep_onZero _)) $$ HG
  imod (Rounds.fund_launch ER (Rd (part m)) disjoint_cells (fun g _ h => h) toks) $$ [Hv Hu] with ⟨%κ, -, #Hinv, #Hr, Hat, Hopen, Htok⟩
  · isplitl [Hv]
    · iapply hv $$ Hv
    · iexact Hu
  imodintro
  ihave Htk := (toks_deal (F := F)) $$ Htok
  icases Htk with ⟨Ht, HtL, Hz, Hx, Hy⟩
  iapply (bigSep_with_persistent (R := Ctx (part m) κ) (Φ := fun c => iprop(start c ∗ bundle m c)) fun c _ => T₀_intro m κ c)
  isplitr
  · iapply (ctx_intro (part m) κ)
    isplitr; · iexact Hinv
    isplitr; · iexact Hr
    iexact Hlev
  unfold start
  simp only [bigSep_sep']
  isplitr [HB]
  · isplitl [Hopen]; · iapply hopen $$ Hopen
    isplitl [Ht]; · iexact Ht
    isplitl [HtL]; · iexact HtL
    isplitl [Hz Hx Hy]
    · isplitl [Hz]; · iexact Hz
      isplitl [Hx] <;> iassumption
    iapply hat $$ Hat
  iexact HB

/-! ## The run -/

theorem arr_sub : ({Proc.devRef .tc main_v17} : Finset (DevRef τ sig)) ⊆ Pipeline.ucRefs τ sig := fun b hb => by
  rw [Finset.mem_singleton.mp hb]; exact uc_mem main_v17 (by decide)

theorem pre0 (c : Dev nD) : iprop(StableHlo.held (c : Thread nD τ) (Pipeline.ucRefs τ sig) (Gen.V1 m c) ∗ E m 0 c) ⊢ (reg0 m).pre c := by
  show iprop(StableHlo.held (c : Thread nD τ) (Pipeline.ucRefs τ sig) (Gen.V1 m c) ∗ E0 m c)
    ⊢ iprop(StableHlo.held (c.tc : Thread nD τ) (Pipeline.arrRefs (τ := τ) spec0) (W1 m c) ∗ (∃ r, prngReg c r)
      ∗ (StableHlo.held (c.tc : Thread nD τ) Sr (W1 m c) ∗ emp) ∗ Tk m c ∗ ∃ Wd, owes (c : Thread nD τ) (0 + O₀ c) Wd)
  rw [arr_eq, zero_add, StableHlo.held_sub_split (c : Thread nD τ) arr_sub]
  unfold E0 ow Sr
  iintro ⟨⟨Ha, Hs⟩, HT, Hr, HO⟩
  isplitl [Ha]; · iexact Ha
  isplitl [Hr]; · iexact Hr
  isplitl [Hs]
  · isplitl [Hs]; · iexact Hs
    iempintro
  isplitl [HT] <;> iassumption

theorem post0 (c : Dev nD) : (reg0 m).post c ⊢ iprop(Tₙ m c ∗ ∃ W, owes (c.tc : Thread nD τ) (0 : CellTallies nD τ sig Unit) W) := by
  show iprop(StableHlo.held (c.tc : Thread nD τ) (Pipeline.arrRefs (τ := τ) spec0) (W2 m c) ∗ (∃ r, prngReg c r)
      ∗ (StableHlo.held (c.tc : Thread nD τ) Sr (W2 m c) ∗ emp) ∗ Yk c ∗ ∃ Wd, owes (c : Thread nD τ) (0 : CellTallies nD τ sig Unit) Wd) ⊢ _
  dsimp only [Tₙ]
  rw [arr_eq, StableHlo.held_sub_split (c : Thread nD τ) arr_sub]
  unfold Sr
  iintro ⟨Ha, -, ⟨Hs, -⟩, HY, HO⟩
  isplitr [HO]
  · isplitl [Ha Hs]
    · isplitl [Ha] <;> iassumption
    iexact HY
  iexact HO

/-- The final memory of a device. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1))
  ∧ s.mem ((c.tc : Thread nD τ).loc main_v18) = res (part m) c

theorem W2_arg0 (c : Dev nD) : W2 m c (Proc.devRef .tc main_arg0) = m ((c.tc : Thread nD τ).loc main_arg0) :=
  (W2_ne m c _ (by decide)).trans (Gen.V1_of m c main_arg0 (by decide))
theorem W2_arg1 (c : Dev nD) : W2 m c (Proc.devRef .tc main_arg1) = m ((c.tc : Thread nD τ).loc main_arg1) :=
  (W2_ne m c _ (by decide)).trans (Gen.V1_of m c main_arg1 (by decide))

set_option backward.isDefEq.respectTransparency.types false in
/-- From any memory with zero counters, every weakly fair execution of @main on the eight devices terminates; at the end
    each argument is as launched, each device holds the gathered sums, and every semaphore counter is zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) Gen.adm (pdats m) () Gen.cellOf_inj EP (defs₀ (F := F)) 𝒱₀ L lv m ρ main
    (Gen.segs m 𝒱₀ L lv (E m) () (pdats m) (reg0 m))
    (fun c Q => by
      rewrite [Gen.main_chain c, Pipeline.Seg.run_eq_chain,
        show (Gen.segs m 𝒱₀ L lv (E m) () (pdats m) (reg0 m) c).map Pipeline.Seg.prog = [
          StableHlo.seq (Gen.hostOps0 c),
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := fun c => ⟨.rfl, pre0 m c, post0 m c⟩)
    (hinit := init m ρ)
    (QY := fun c s => Ends m c s ∧ s.sem (bc c) = 0)
    (hfin := fun c s' => by
      dsimp only [Tₙ]
      unfold StableHlo.held Yk
      iintro ⟨⟨Hh, Hb⟩, HSI⟩
      icombine HSI Hb gives %hb
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        exact ⟨⟨⟨(h _ (uc_mem main_arg0 (by decide))).trans (W2_arg0 m c), (h _ (uc_mem main_arg1 (by decide))).trans (W2_arg1 m c)⟩,
          (h _ (uc_mem main_v18 (by decide))).trans (W2_res m c)⟩, by simpa using hb⟩
      iexact HSI)
    (hQ := fun s h hs => ⟨fun c => (h c).1, sem_eq_zero hs fun c s' hs' => by
      obtain rfl := unscoped_eq s' hs'
      exact (h c).2⟩)

end Cert.AR

end
-- ==== Proof.Ref.lean ====
/- The reference's run. -/
module

public import proofs.«01_k».proof.Proof.Gen.ReferenceIdeal.Run
public import proofs.«01_k».proof.Defs

@[expose] public section
-- ==== Proof.Value.lean ====
/- The values: what each device's partial product is over the extended reals, the sum across `z`, and the reference's product. -/
module

public import proofs.«01_k».proof.Proof.Run
public import proofs.«01_k».proof.Proof.Ref
public import Idealize.ShloMosaic.Lib.IdealHost
public import Idealize.ShloMosaic.Lib.WordCmp
public import Idealize.ShloMosaic.Lib.MatmulPlain
public import Idealize.ShloMosaic.Lib.StackMember
public import Idealize.ShloMosaic.Lib.ValueLayout

@[expose] public section

noncomputable section

namespace Cert.AR

open Idealize.ShloMosaic Idealize.ShloMosaic.TcCoe
open Idealize.SL Idealize.SL.Sem
open Idealize.ShloMosaic.ValueIdx
open Idealize.ShloMosaic.StableHlo
open Cert.KernelIdeal

section Host

variable {F : FTy → Type} [FloatOps F]
variable (m : (ℓ : Loc nD τ sig) → Buf (Elt F) ℓ)

theorem block_slices (c : Dev nD) : S4096x8192.Slices ![1024 * blk c, 0] S1024x8192 := by
  revert c; decide

/-- The host's operations up to the slice. -/
abbrev pre (c : Dev nD) : List (HloOp τ sig (Elt F)) := (Gen.hostOps0 c).take 23

/-- The number of device `c`'s block times the rows of a block, as the host computes it. -/
def rows (c : Dev nD) : IVec S_ 32 :=
  muli (addi (muli (constantI S_ 32 2#32) (Host.remui (Host.divui (constantI S_ 32 (Dev.word c)) (constantI S_ 32 4#32)) (constantI S_ 32 2#32)))
    (Host.remui (Host.divui (constantI S_ 32 (Dev.word c)) (constantI S_ 32 2#32)) (constantI S_ 32 2#32))) (constantI S_ 32 1024#32)

theorem row_word : ∀ c : Dev nD, select (cmpi .slt (rows c) (constantI S_ 32 0#32)) (addi (rows c) (constantI S_ 32 4096#32)) (rows c) ix0
    = BitVec.ofNat 32 (1024 * blk c) := by decide +kernel

theorem at_v14 (c : Dev nD) : StableHlo.after (pre c) (Gen.V0 m c) (Proc.devRef .tc main_v14) = fun _ => BitVec.ofNat 32 (1024 * blk c) := by
  unfold pre
  simp only [List.take]
  after_results
  funext x
  obtain rfl : x = ix0 := eq_ix0 x
  exact row_word c

/-- What the host leaves in the kernel's operand: device `c`'s block of rows of the first argument, times the second. -/
theorem part_eq (c : Dev nD) : part m c = truncf .bf16 (Host.dotGeneral dot_S1024x8192_S4096x8192_S1024x4096_1_1_0_0_n_n none
    (extractStridedSlice S1024x8192 ![1024 * blk c, 0] (m ((c.tc : Thread nD τ).loc main_arg0)) (block_slices c))
    (m ((c.tc : Thread nD τ).loc main_arg1))) Gen.bitsLt_bf16_f32 := by
  unfold part
  after_results
  refine congrArg (fun x => truncf .bf16 (Host.dotGeneral dot_S1024x8192_S4096x8192_S1024x4096_1_1_0_0_n_n none x
    (m ((c.tc : Thread nD τ).loc main_arg1))) Gen.bitsLt_bf16_f32) ?_
  refine WordCmp.dynamicSlice_eq_extract _ _ _ _ _ (block_slices c) fun a => ?_
  match a with
  | 0 =>
    exact (congrArg (fun w : S_.Idx → BitVec 32 => (w (Shape.Idx.first Gen.h_S_)).toInt) (at_v14 m c)).trans (by
      show (BitVec.ofNat 32 (1024 * blk c)).toInt = ((1024 * blk c : ℕ) : Int)
      revert c; decide +kernel)
  | 1 => exact (by decide : (0#32).toInt = ((0 : ℕ) : Int))

end Host

/-! ## Over the extended reals -/

open scoped BigOperators

/-- A host product against a transposed right operand, read at an index. -/
theorem dot_transposed {M K N : ℕ} {φ₁ φ₂ : FTy} (lhs : FVec Ideal ⟨2, ![M, K]⟩ φ₁) (rhs : FVec Ideal ⟨2, ![N, K]⟩ φ₂) (r : Fin M) (n : Fin N) :
    Host.dotGeneral (DotDims.transposedRhs M K N) none lhs rhs (ix2 r n) = ∑ k : Fin K, lhs (ix2 r k) * rhs (ix2 n k) := by
  simp only [Host.dotGeneral]
  rw [Ideal.dotGeneral_apply, ← Equiv.sum_comp (DotDims.transposedRhsContr M K N).symm]
  refine Finset.sum_congr rfl fun k _ => ?_
  have hk := contrEquiv1_symm_val _ K (DotDims.transposedRhs_contr_rank M K N) (DotDims.transposedRhs_contr_size M K N) k
  have el : (DotDims.transposedRhs M K N).lhsIdx (ix2 r n) ((DotDims.transposedRhsContr M K N).symm k) = ix2 r k :=
    funext fun a => Fin.ext (match a with | ⟨0, _⟩ => rfl | ⟨1, _⟩ => hk)
  have er : (DotDims.transposedRhs M K N).rhsIdx (ix2 r n) ((DotDims.transposedRhsContr M K N).symm k) = ix2 n k :=
    funext fun a => Fin.ext (match a with | ⟨0, _⟩ => rfl | ⟨1, _⟩ => hk)
  rw [el, er]

/-- Element `k` of row `r` on the side `z` of the cut. -/
def col (z : ℕ) (hz : z < 2) (k : Fin 8192) : Fin 16384 := ⟨8192 * z + k.val, by have := k.isLt; omega⟩

/-- Half of an element of the product: the terms of one side of the cut. -/
def halfDot (A B : FVec Ideal ⟨2, ![4096, 16384]⟩ .bf16) (z : ℕ) (hz : z < 2) (i j : Fin 4096) : EReal :=
  ∑ k : Fin 8192, A (ix2 i (col z hz k)) * B (ix2 j (col z hz k))

/-- The two halves make the whole. -/
theorem halves (A B : FVec Ideal ⟨2, ![4096, 16384]⟩ .bf16) (i j : Fin 4096) :
    halfDot A B 0 (by decide) i j + halfDot A B 1 (by decide) i j = ∑ k : Fin 16384, A (ix2 i k) * B (ix2 j k) := by
  refine (Eq.trans (Fin.sum_univ_add (a := 8192) (b := 8192) fun k => (A (ix2 i k) * B (ix2 j k) : EReal)) ?_).symm
  refine congrArg₂ (· + ·) (Finset.sum_congr rfl fun k _ => ?_) (Finset.sum_congr rfl fun k _ => ?_)
  · have h : col 0 (by decide) k = Fin.castAdd 8192 k := Fin.ext (by show 8192 * 0 + k.val = k.val; omega)
    rw [h]
  · have h : col 1 (by decide) k = Fin.natAdd 8192 k := Fin.ext (by show 8192 * 1 + k.val = 8192 + k.val; omega)
    rw [h]

section

variable (m : (ℓ : Loc nD τ sig) → Buf (Elt Ideal) ℓ) (A B : FVec Ideal ⟨2, ![4096, 16384]⟩ .bf16)

theorem side (c : Dev nD) : (Layout.meshBlock (r := 2) [2, 2, 2] ![[], [2]] c (by decide) 1).val = c.val % 2 := by
  revert c; decide

theorem block_at (c : Dev nD) (i : Fin 4096) (k : Fin 8192) :
    (Layout.blockN ⟨2, ![4096, 8192]⟩ ⟨2, ![4096, 16384]⟩ (Layout.meshBlock [2, 2, 2] ![[], [2]] c) A : FVec Ideal S4096x8192 .bf16) (ix2 i k)
      = A (ix2 i (col (c.val % 2) (Nat.mod_lt _ (by decide)) k)) := by
  rw [Layout.blockN_apply]
  refine congrArg A (funext fun a => Fin.ext ?_)
  match a with
  | ⟨0, _⟩ => rw [Layout.TilesN.idx_val]; exact (congrArg (· + i.val) (Nat.zero_mul 4096)).trans (Nat.zero_add _)
  | ⟨1, _⟩ =>
    rw [Layout.TilesN.idx_val]
    exact (congrArg (fun z => z * 8192 + k.val) (side c)).trans (congrArg (· + k.val) (Nat.mul_comm _ _))

variable (hA : ∀ c : Dev nD, m ((c.tc : Thread nD τ).loc main_arg0)
    = Layout.blockN ⟨2, ![4096, 8192]⟩ ⟨2, ![4096, 16384]⟩ (Layout.meshBlock [2, 2, 2] ![[], [2]] c) A)
variable (hB : ∀ c : Dev nD, m ((c.tc : Thread nD τ).loc main_arg1)
    = Layout.blockN ⟨2, ![4096, 8192]⟩ ⟨2, ![4096, 16384]⟩ (Layout.meshBlock [2, 2, 2] ![[], [2]] c) B)

include hA hB in
/-- A device's partial product is its half of its block of rows. -/
theorem part_at (c : Dev nD) (r : Fin 1024) (j : Fin 4096) (i : Fin 4096) (hi : i.val = 1024 * blk c + r.val) :
    part m c (ix2 r j) = halfDot A B (c.val % 2) (Nat.mod_lt _ (by decide)) i j := by
  rw [part_eq]
  refine (dot_transposed (φ₁ := .bf16) (φ₂ := .bf16) _ _ r j).trans (Finset.sum_congr rfl fun k _ => ?_)
  rw [hB c, block_at B c j k]
  refine congrArg (· * _) ?_
  rw [← block_at A c i k, ← hA c]
  refine extractStridedSlice_apply _ _ _ _ _ fun a => ?_
  match a with
  | ⟨0, _⟩ => exact hi
  | ⟨1, _⟩ => exact (Nat.zero_add _).symm

end

/-- Over the extended reals a device's sum is its partial product plus its neighbour's. -/
theorem sums_at (P : Dev nD → Vec Ideal S1024x4096 .bf16) (d : Dev nD) (x : S1024x4096.Idx) :
    sums P d x = (P d x + P (zn d) x : EReal) := by
  have h0 : (x 0).val < 1024 := (x 0).isLt
  have h8 : (x 0).val / 128 < 8 := by omega
  have hx : ((zC ⟨(x 0).val / 128, h8⟩).view.emb (ix2 ⟨(x 0).val % 128, Nat.mod_lt _ (by decide)⟩ (x 1)) : S1024x4096.Idx) = x := by
    refine (eq_ix2 _).trans (Eq.trans (congrArg₂ ix2 (Fin.ext ?_) (Fin.ext ?_)) (eq_ix2 x).symm)
    · rw [zC_emb0]; show 128 * ((x 0).val / 128) + (x 0).val % 128 = _; omega
    · rw [zC_emb1]
  unfold sums Gen.k0_pay1
  dsimp only
  rw [shapeCast_self, shapeCast_self, truncf_apply, addf_apply, extf_apply, extf_apply]
  exact congrArg₂ (fun a b : EReal => a + b) (congrArg (P d) hx) (congrArg (P (zn d)) hx)

/-! ## The whole result -/

theorem dv_facts : ∀ (c : Dev nD) (k : Fin 4), blk (dv c k) = k.val ∧ blk (zn (dv c k)) = k.val
    ∧ ((dv c k).val % 2 = 0 ∧ (zn (dv c k)).val % 2 = 1 ∨ (dv c k).val % 2 = 1 ∧ (zn (dv c k)).val % 2 = 0) := by decide +kernel

theorem halfDot_congr (A B : FVec Ideal ⟨2, ![4096, 16384]⟩ .bf16) {z z' : ℕ} (hz : z < 2) (hz' : z' < 2) (h : z = z') (i j : Fin 4096) :
    halfDot A B z hz i j = halfDot A B z' hz' i j := by subst h; rfl

section

variable (m : (ℓ : Loc nD τ sig) → Buf (Elt Ideal) ℓ) (A B : FVec Ideal ⟨2, ![4096, 16384]⟩ .bf16)

/-- What the reference computes: the product of the one matrix with the other's transpose. -/
def want : FVec Ideal S4096x4096 .bf16 := fun x => (∑ k : Fin 16384, A (ix2 (x 0) k) * B (ix2 (x 1) k) : EReal)

theorem res_at (hA : ∀ c : Dev nD, m ((c.tc : Thread nD τ).loc main_arg0)
      = Layout.blockN ⟨2, ![4096, 8192]⟩ ⟨2, ![4096, 16384]⟩ (Layout.meshBlock [2, 2, 2] ![[], [2]] c) A)
    (hB : ∀ c : Dev nD, m ((c.tc : Thread nD τ).loc main_arg1)
      = Layout.blockN ⟨2, ![4096, 8192]⟩ ⟨2, ![4096, 16384]⟩ (Layout.meshBlock [2, 2, 2] ![[], [2]] c) B)
    (c : Dev nD) : res (part m) c = want A B := by
  funext x
  have h0 : (x 0).val < 4096 := (x 0).isLt
  obtain ⟨hb, hb', hz⟩ := dv_facts c (ofBlk x)
  have hk : (ofBlk x).val = (x 0).val / 1024 := rfl
  unfold res gathered inBlk want
  rw [sums_at, part_at m A B hA hB (dv c (ofBlk x)) _ (x 1) (x 0) (by rw [hb, hk]; dsimp only; omega),
    part_at m A B hA hB (zn (dv c (ofBlk x))) _ (x 1) (x 0) (by rw [hb', hk]; dsimp only; omega)]
  rcases hz with ⟨hz, hz'⟩ | ⟨hz, hz'⟩
  · exact (congrArg₂ (fun a b : EReal => a + b) (halfDot_congr A B _ (by decide) hz (x 0) (x 1))
      (halfDot_congr A B _ (by decide) hz' (x 0) (x 1))).trans (halves A B (x 0) (x 1))
  · exact (congrArg₂ (fun a b : EReal => a + b) (halfDot_congr A B _ (by decide) hz (x 0) (x 1))
      (halfDot_congr A B _ (by decide) hz' (x 0) (x 1))).trans ((add_comm _ _).trans (halves A B (x 0) (x 1)))

/-- The reference's operations, read at an index. -/
theorem ref_eq : (truncf .bf16 (Host.dotGeneral Cert.ReferenceIdeal.dot_S4096x16384_S16384x4096_S4096x4096_1_0_0_1_n_n none A
      (transpose Cert.ReferenceIdeal.S16384x4096 [1, 0] B Cert.ReferenceIdeal.Gen.transposes_S4096x16384_S16384x4096_1_0))
      Cert.ReferenceIdeal.Gen.bitsLt_bf16_f32 : FVec Ideal S4096x4096 .bf16) = want A B := by
  funext x
  rw [truncf_apply, eq_ix2 x]
  refine (StackMember.dotGeneral_plain_apply (m := 4096) (k := 16384) (n := 4096) (φ₁ := .bf16) (φ₂ := .bf16) none A _ (x 0) (x 1)).trans ?_
  refine Finset.sum_congr rfl fun k _ => ?_
  exact congrArg (fun b : EReal => A (ix2 (x 0) k) * b) (transpose_ix2_apply (a := 4096) (b := 16384) B _ k (x 1))

end

end Cert.AR

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- `Cert.quiescent_KernelIdeal`: the run over any float values, at the extended reals. -/
theorem frame_kernelIdeal : Cert.quiescent_KernelIdeal := fun m ρ _ =>
  (θ_run Cert.KernelIdeal.defs _ _).mono (fun _ h => ⟨fun c => (h.1 c).1, h.2⟩) (Cert.AR.run_main (F := Ideal) m ρ)

/-! ## The two programs are one text -/

theorem body_eq : Cert.Kernel.cc0__ar_body (F := Bits) = Cert.KernelIdeal.cc0__ar_body (F := Bits) := rfl

theorem bodies_eq : Cert.Kernel.defs₀ (F := Bits) = Cert.KernelIdeal.defs₀ (F := Bits) := by
  funext p l a
  match p, l, a with
  | .tc, (0 : Fin 1), (t, s) =>
    exact congrArg (fun f => f (Cert.KernelIdeal.win0_0.stage (s 0)) (Cert.KernelIdeal.Facts₀.hstage0_0 0) (Memref.whole Cert.KernelIdeal.main_v18) (Memref.isWhole_whole _)
      (Memref.whole Cert.KernelIdeal.cc0_scratch0) (Memref.isWhole_whole _) Cert.KernelIdeal.cc0_scratch1 Cert.KernelIdeal.cc0_scratch2
      Cert.KernelIdeal.cc0_scratch3 Cert.KernelIdeal.cc0_scratch4 Cert.KernelIdeal.cc0_scratch5 Cert.KernelIdeal.cc0_scratch6
      Cert.KernelIdeal.cc0_scratch7 Cert.KernelIdeal.cc0_scratch8 Cert.KernelIdeal.cc0_scratch9 Cert.KernelIdeal.cc0_scratch10
      Cert.KernelIdeal.cc0_scratch11) body_eq
  | .scScalar _, _, _ => rfl
  | .scVector _ _, _, _ => rfl

theorem defs_eq : Cert.Kernel.defs (F := Bits) = Cert.KernelIdeal.defs (F := Bits) :=
  congrArg (fun d => Pipeline.defs (Cert.KernelIdeal.pcfgs (F := Bits)) d) bodies_eq

/-- `Cert.quiescent_Kernel`: the same run at the bit patterns. -/
theorem frame_kernel : Cert.quiescent_Kernel := fun m ρ _ => by
  rw [defs_eq]
  exact (θ_run Cert.KernelIdeal.defs _ _).mono (fun _ h => ⟨fun c => (h.1 c).1, h.2⟩) (Cert.AR.run_main (F := Bits) m ρ)

/-- `Cert.quiescent_ReferenceIdeal`: a straight line of host operations, and no semaphore declared. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value: every device ends with the product that the reference computes. -/
theorem value : Cert.algebraic_KernelIdeal_ReferenceIdeal := fun m ρ m' ρ' _ hin =>
  ⟨Cert.AR.want (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c).2.trans (Cert.AR.res_at m _ _ (fun c => (hin c).1) (fun c => (hin c).2) c), (h.1 c).1⟩)
      (Cert.AR.run_main (F := Ideal) m ρ),
    (θ_run Cert.ReferenceIdeal.defs _ _).mono (fun _ h => ⟨(h 0).1.trans (Cert.AR.ref_eq _ _), (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
